-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_separate [hPre_scores_separate : Cert.Pre_scores_separate.Facts] (m : (ℓ : Loc Cert.KernelIdeal.nD Cert.KernelIdeal.τ Cert.KernelIdeal.sig) → Buf (Elt Ideal) ℓ) : Prop :=
  ∀ c : Dev Cert.KernelIdeal.nD,
    (Cert.Pre_scores_separate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_scores_separate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_scores_separate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_KernelNamed (m : (ℓ : Loc Cert.KernelNamed.nD Cert.KernelNamed.τ Cert.KernelNamed.sig) → Buf (Elt Ideal) ℓ) : Prop :=
  True

def Pre_KernelNamed_scores_separate [hPre_scores_separate : Cert.Pre_scores_separate.Facts] (m : (ℓ : Loc Cert.KernelNamed.nD Cert.KernelNamed.τ Cert.KernelNamed.sig) → Buf (Elt Ideal) ℓ) : Prop :=
  ∀ c : Dev Cert.KernelNamed.nD,
    (Cert.Pre_scores_separate.fn (F := Ideal) (m ((c.tc : Thread Cert.KernelNamed.nD Cert.KernelNamed.τ).loc Cert.KernelNamed.main_arg0)) (m ((c.tc : Thread Cert.KernelNamed.nD Cert.KernelNamed.τ).loc Cert.KernelNamed.main_arg1)) (m ((c.tc : Thread Cert.KernelNamed.nD Cert.KernelNamed.τ).loc Cert.KernelNamed.main_arg2)) (m ((c.tc : Thread Cert.KernelNamed.nD Cert.KernelNamed.τ).loc Cert.KernelNamed.main_arg3)) (m ((c.tc : Thread Cert.KernelNamed.nD Cert.KernelNamed.τ).loc Cert.KernelNamed.main_arg4)) (m ((c.tc : Thread Cert.KernelNamed.nD Cert.KernelNamed.τ).loc Cert.KernelNamed.main_arg5))).1 = (fun _ => 1#1)
    ∧ (Cert.Pre_scores_separate.fn (F := Ideal) (m ((c.tc : Thread Cert.KernelNamed.nD Cert.KernelNamed.τ).loc Cert.KernelNamed.main_arg0)) (m ((c.tc : Thread Cert.KernelNamed.nD Cert.KernelNamed.τ).loc Cert.KernelNamed.main_arg1)) (m ((c.tc : Thread Cert.KernelNamed.nD Cert.KernelNamed.τ).loc Cert.KernelNamed.main_arg2)) (m ((c.tc : Thread Cert.KernelNamed.nD Cert.KernelNamed.τ).loc Cert.KernelNamed.main_arg3)) (m ((c.tc : Thread Cert.KernelNamed.nD Cert.KernelNamed.τ).loc Cert.KernelNamed.main_arg4)) (m ((c.tc : Thread Cert.KernelNamed.nD Cert.KernelNamed.τ).loc Cert.KernelNamed.main_arg5))).2.1 = (fun _ => 1#1)
    ∧ (Cert.Pre_scores_separate.fn (F := Ideal) (m ((c.tc : Thread Cert.KernelNamed.nD Cert.KernelNamed.τ).loc Cert.KernelNamed.main_arg0)) (m ((c.tc : Thread Cert.KernelNamed.nD Cert.KernelNamed.τ).loc Cert.KernelNamed.main_arg1)) (m ((c.tc : Thread Cert.KernelNamed.nD Cert.KernelNamed.τ).loc Cert.KernelNamed.main_arg2)) (m ((c.tc : Thread Cert.KernelNamed.nD Cert.KernelNamed.τ).loc Cert.KernelNamed.main_arg3)) (m ((c.tc : Thread Cert.KernelNamed.nD Cert.KernelNamed.τ).loc Cert.KernelNamed.main_arg4)) (m ((c.tc : Thread Cert.KernelNamed.nD Cert.KernelNamed.τ).loc Cert.KernelNamed.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_separate [hPre_scores_separate : Cert.Pre_scores_separate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_separate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_scores_separate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_scores_separate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_separate [hKernelIdeal : Cert.KernelIdeal.Facts] [hPre_scores_separate : Cert.Pre_scores_separate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_separate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelNamed [hKernelNamed : Cert.KernelNamed.Facts] : Prop :=
  ∀ (m : (ℓ : Loc Cert.KernelNamed.nD Cert.KernelNamed.τ Cert.KernelNamed.sig) → Buf (Elt Ideal) ℓ) (g : Dev Cert.KernelNamed.nD → PrngReg), Pre_KernelNamed m →
    θ_run (Cert.KernelNamed.defs (F := Ideal)) (onTc (τ := Cert.KernelNamed.τ) (Cert.KernelNamed.main (F := Ideal))) ⟨m, fun _ => 0, g⟩ (fun r => (∀ c : Dev Cert.KernelNamed.nD,
      r.2.mem ((c.tc : Thread Cert.KernelNamed.nD Cert.KernelNamed.τ).loc Cert.KernelNamed.main_arg0) = m ((c.tc : Thread Cert.KernelNamed.nD Cert.KernelNamed.τ).loc Cert.KernelNamed.main_arg0)
      ∧ r.2.mem ((c.tc : Thread Cert.KernelNamed.nD Cert.KernelNamed.τ).loc Cert.KernelNamed.main_arg1) = m ((c.tc : Thread Cert.KernelNamed.nD Cert.KernelNamed.τ).loc Cert.KernelNamed.main_arg1)
      ∧ r.2.mem ((c.tc : Thread Cert.KernelNamed.nD Cert.KernelNamed.τ).loc Cert.KernelNamed.main_arg2) = m ((c.tc : Thread Cert.KernelNamed.nD Cert.KernelNamed.τ).loc Cert.KernelNamed.main_arg2)
      ∧ r.2.mem ((c.tc : Thread Cert.KernelNamed.nD Cert.KernelNamed.τ).loc Cert.KernelNamed.main_arg3) = m ((c.tc : Thread Cert.KernelNamed.nD Cert.KernelNamed.τ).loc Cert.KernelNamed.main_arg3)
      ∧ r.2.mem ((c.tc : Thread Cert.KernelNamed.nD Cert.KernelNamed.τ).loc Cert.KernelNamed.main_arg4) = m ((c.tc : Thread Cert.KernelNamed.nD Cert.KernelNamed.τ).loc Cert.KernelNamed.main_arg4)
      ∧ r.2.mem ((c.tc : Thread Cert.KernelNamed.nD Cert.KernelNamed.τ).loc Cert.KernelNamed.main_arg5) = m ((c.tc : Thread Cert.KernelNamed.nD Cert.KernelNamed.τ).loc Cert.KernelNamed.main_arg5))
      ∧ r.2.sem = fun _ => 0)

def quiescent_KernelNamed_pre_scores_separate [hKernelNamed : Cert.KernelNamed.Facts] [hPre_scores_separate : Cert.Pre_scores_separate.Facts] : Prop :=
  ∀ (m : (ℓ : Loc Cert.KernelNamed.nD Cert.KernelNamed.τ Cert.KernelNamed.sig) → Buf (Elt Ideal) ℓ) (g : Dev Cert.KernelNamed.nD → PrngReg), Pre_KernelNamed_scores_separate m →
    θ_run (Cert.KernelNamed.defs (F := Ideal)) (onTc (τ := Cert.KernelNamed.τ) (Cert.KernelNamed.main (F := Ideal))) ⟨m, fun _ => 0, g⟩ (fun r => (∀ c : Dev Cert.KernelNamed.nD,
      r.2.mem ((c.tc : Thread Cert.KernelNamed.nD Cert.KernelNamed.τ).loc Cert.KernelNamed.main_arg0) = m ((c.tc : Thread Cert.KernelNamed.nD Cert.KernelNamed.τ).loc Cert.KernelNamed.main_arg0)
      ∧ r.2.mem ((c.tc : Thread Cert.KernelNamed.nD Cert.KernelNamed.τ).loc Cert.KernelNamed.main_arg1) = m ((c.tc : Thread Cert.KernelNamed.nD Cert.KernelNamed.τ).loc Cert.KernelNamed.main_arg1)
      ∧ r.2.mem ((c.tc : Thread Cert.KernelNamed.nD Cert.KernelNamed.τ).loc Cert.KernelNamed.main_arg2) = m ((c.tc : Thread Cert.KernelNamed.nD Cert.KernelNamed.τ).loc Cert.KernelNamed.main_arg2)
      ∧ r.2.mem ((c.tc : Thread Cert.KernelNamed.nD Cert.KernelNamed.τ).loc Cert.KernelNamed.main_arg3) = m ((c.tc : Thread Cert.KernelNamed.nD Cert.KernelNamed.τ).loc Cert.KernelNamed.main_arg3)
      ∧ r.2.mem ((c.tc : Thread Cert.KernelNamed.nD Cert.KernelNamed.τ).loc Cert.KernelNamed.main_arg4) = m ((c.tc : Thread Cert.KernelNamed.nD Cert.KernelNamed.τ).loc Cert.KernelNamed.main_arg4)
      ∧ r.2.mem ((c.tc : Thread Cert.KernelNamed.nD Cert.KernelNamed.τ).loc Cert.KernelNamed.main_arg5) = m ((c.tc : Thread Cert.KernelNamed.nD Cert.KernelNamed.τ).loc Cert.KernelNamed.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_separate [hReferenceIdeal : Cert.ReferenceIdeal.Facts] [hPre_scores_separate : Cert.Pre_scores_separate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_separate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def preserves_Kernel_KernelNamed : Prop :=
  IdealRules.named_const.Statement Cert.KernelNamed.κ "mask" .f32 0xF149F2CA#32 ⊥

def algebraic_KernelIdeal_ReferenceIdeal_on_indices_and_late_weights_pre_scores_separate [hKernelIdeal : Cert.KernelIdeal.Facts] [hReferenceIdeal : Cert.ReferenceIdeal.Facts] [hPre_scores_separate : Cert.Pre_scores_separate.Facts] [hOn_indices_and_late_weights : Cert.On_indices_and_late_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_separate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 4096, 32]⟩ : Shape).Idx, (Cert.On_indices_and_late_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v0_0) i = v0 c i)
          ∧ (∀ i : (⟨3, ![2, 4096, 32]⟩ : Shape).Idx, (Cert.On_indices_and_late_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 4096, 32]⟩ : Shape).Idx, (Cert.On_indices_and_late_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v79) i = v0 c i)
          ∧ (∀ i : (⟨3, ![2, 4096, 32]⟩ : Shape).Idx, (Cert.On_indices_and_late_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.ReferenceIdeal.nD Cert.ReferenceIdeal.τ).loc Cert.ReferenceIdeal.main_v80) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def algebraic_KernelNamed_ReferenceIdeal_on_weights_and_late_indices_pre_scores_separate [hKernelNamed : Cert.KernelNamed.Facts] [hReferenceIdeal : Cert.ReferenceIdeal.Facts] [hPre_scores_separate : Cert.Pre_scores_separate.Facts] [hOn_weights_and_late_indices : Cert.On_weights_and_late_indices.Facts] : Prop :=
  ∀ (m : (ℓ : Loc Cert.KernelNamed.nD Cert.KernelNamed.τ Cert.KernelNamed.sig) → Buf (Elt Ideal) ℓ) (g : Dev Cert.KernelNamed.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelNamed_scores_separate m →
    (∀ c : Dev Cert.KernelNamed.nD,
      m' ((c.tc : Thread Cert.ReferenceIdeal.nD Cert.ReferenceIdeal.τ).loc Cert.ReferenceIdeal.main_arg0) = m ((c.tc : Thread Cert.KernelNamed.nD Cert.KernelNamed.τ).loc Cert.KernelNamed.main_arg0)
      ∧ m' ((c.tc : Thread Cert.ReferenceIdeal.nD Cert.ReferenceIdeal.τ).loc Cert.ReferenceIdeal.main_arg1) = m ((c.tc : Thread Cert.KernelNamed.nD Cert.KernelNamed.τ).loc Cert.KernelNamed.main_arg1)
      ∧ m' ((c.tc : Thread Cert.ReferenceIdeal.nD Cert.ReferenceIdeal.τ).loc Cert.ReferenceIdeal.main_arg2) = m ((c.tc : Thread Cert.KernelNamed.nD Cert.KernelNamed.τ).loc Cert.KernelNamed.main_arg2)
      ∧ m' ((c.tc : Thread Cert.ReferenceIdeal.nD Cert.ReferenceIdeal.τ).loc Cert.ReferenceIdeal.main_arg3) = m ((c.tc : Thread Cert.KernelNamed.nD Cert.KernelNamed.τ).loc Cert.KernelNamed.main_arg3)
      ∧ m' ((c.tc : Thread Cert.ReferenceIdeal.nD Cert.ReferenceIdeal.τ).loc Cert.ReferenceIdeal.main_arg4) = m ((c.tc : Thread Cert.KernelNamed.nD Cert.KernelNamed.τ).loc Cert.KernelNamed.main_arg4)
      ∧ m' ((c.tc : Thread Cert.ReferenceIdeal.nD Cert.ReferenceIdeal.τ).loc Cert.ReferenceIdeal.main_arg5) = m ((c.tc : Thread Cert.KernelNamed.nD Cert.KernelNamed.τ).loc Cert.KernelNamed.main_arg5)) →
    ∃ (v0 : (c : Dev Cert.KernelNamed.nD) → Buf (Elt Ideal) ((c.tc : Thread Cert.KernelNamed.nD Cert.KernelNamed.τ).loc Cert.KernelNamed.main_v0_0)) (v1 : (c : Dev Cert.KernelNamed.nD) → Buf (Elt Ideal) ((c.tc : Thread Cert.KernelNamed.nD Cert.KernelNamed.τ).loc Cert.KernelNamed.main_v0_1)),
      θ_run (Cert.KernelNamed.defs (F := Ideal)) (onTc (τ := Cert.KernelNamed.τ) (Cert.KernelNamed.main (F := Ideal))) ⟨m, fun _ => 0, g⟩ (fun r => ∀ c : Dev Cert.KernelNamed.nD,
          (∀ i : (⟨3, ![2, 4096, 32]⟩ : Shape).Idx, (Cert.On_weights_and_late_indices.fn (F := Ideal) (m ((c.tc : Thread Cert.KernelNamed.nD Cert.KernelNamed.τ).loc Cert.KernelNamed.main_arg0)) (m ((c.tc : Thread Cert.KernelNamed.nD Cert.KernelNamed.τ).loc Cert.KernelNamed.main_arg1)) (m ((c.tc : Thread Cert.KernelNamed.nD Cert.KernelNamed.τ).loc Cert.KernelNamed.main_arg2)) (m ((c.tc : Thread Cert.KernelNamed.nD Cert.KernelNamed.τ).loc Cert.KernelNamed.main_arg3)) (m ((c.tc : Thread Cert.KernelNamed.nD Cert.KernelNamed.τ).loc Cert.KernelNamed.main_arg4)) (m ((c.tc : Thread Cert.KernelNamed.nD Cert.KernelNamed.τ).loc Cert.KernelNamed.main_arg5))).1 i = 1#1 → r.2.mem ((c.tc : Thread Cert.KernelNamed.nD Cert.KernelNamed.τ).loc Cert.KernelNamed.main_v0_0) i = v0 c i)
          ∧ (∀ i : (⟨3, ![2, 4096, 32]⟩ : Shape).Idx, (Cert.On_weights_and_late_indices.fn (F := Ideal) (m ((c.tc : Thread Cert.KernelNamed.nD Cert.KernelNamed.τ).loc Cert.KernelNamed.main_arg0)) (m ((c.tc : Thread Cert.KernelNamed.nD Cert.KernelNamed.τ).loc Cert.KernelNamed.main_arg1)) (m ((c.tc : Thread Cert.KernelNamed.nD Cert.KernelNamed.τ).loc Cert.KernelNamed.main_arg2)) (m ((c.tc : Thread Cert.KernelNamed.nD Cert.KernelNamed.τ).loc Cert.KernelNamed.main_arg3)) (m ((c.tc : Thread Cert.KernelNamed.nD Cert.KernelNamed.τ).loc Cert.KernelNamed.main_arg4)) (m ((c.tc : Thread Cert.KernelNamed.nD Cert.KernelNamed.τ).loc Cert.KernelNamed.main_arg5))).2 i = 1#1 → r.2.mem ((c.tc : Thread Cert.KernelNamed.nD Cert.KernelNamed.τ).loc Cert.KernelNamed.main_v0_1) i = v1 c i)
          ∧ r.2.mem ((c.tc : Thread Cert.KernelNamed.nD Cert.KernelNamed.τ).loc Cert.KernelNamed.main_arg0) = m ((c.tc : Thread Cert.KernelNamed.nD Cert.KernelNamed.τ).loc Cert.KernelNamed.main_arg0)
          ∧ r.2.mem ((c.tc : Thread Cert.KernelNamed.nD Cert.KernelNamed.τ).loc Cert.KernelNamed.main_arg1) = m ((c.tc : Thread Cert.KernelNamed.nD Cert.KernelNamed.τ).loc Cert.KernelNamed.main_arg1)
          ∧ r.2.mem ((c.tc : Thread Cert.KernelNamed.nD Cert.KernelNamed.τ).loc Cert.KernelNamed.main_arg2) = m ((c.tc : Thread Cert.KernelNamed.nD Cert.KernelNamed.τ).loc Cert.KernelNamed.main_arg2)
          ∧ r.2.mem ((c.tc : Thread Cert.KernelNamed.nD Cert.KernelNamed.τ).loc Cert.KernelNamed.main_arg3) = m ((c.tc : Thread Cert.KernelNamed.nD Cert.KernelNamed.τ).loc Cert.KernelNamed.main_arg3)
          ∧ r.2.mem ((c.tc : Thread Cert.KernelNamed.nD Cert.KernelNamed.τ).loc Cert.KernelNamed.main_arg4) = m ((c.tc : Thread Cert.KernelNamed.nD Cert.KernelNamed.τ).loc Cert.KernelNamed.main_arg4)
          ∧ r.2.mem ((c.tc : Thread Cert.KernelNamed.nD Cert.KernelNamed.τ).loc Cert.KernelNamed.main_arg5) = m ((c.tc : Thread Cert.KernelNamed.nD Cert.KernelNamed.τ).loc Cert.KernelNamed.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 4096, 32]⟩ : Shape).Idx, (Cert.On_weights_and_late_indices.fn (F := Ideal) (m ((c.tc : Thread Cert.KernelNamed.nD Cert.KernelNamed.τ).loc Cert.KernelNamed.main_arg0)) (m ((c.tc : Thread Cert.KernelNamed.nD Cert.KernelNamed.τ).loc Cert.KernelNamed.main_arg1)) (m ((c.tc : Thread Cert.KernelNamed.nD Cert.KernelNamed.τ).loc Cert.KernelNamed.main_arg2)) (m ((c.tc : Thread Cert.KernelNamed.nD Cert.KernelNamed.τ).loc Cert.KernelNamed.main_arg3)) (m ((c.tc : Thread Cert.KernelNamed.nD Cert.KernelNamed.τ).loc Cert.KernelNamed.main_arg4)) (m ((c.tc : Thread Cert.KernelNamed.nD Cert.KernelNamed.τ).loc Cert.KernelNamed.main_arg5))).1 i = 1#1 → r.2.mem ((c.tc : Thread Cert.ReferenceIdeal.nD Cert.ReferenceIdeal.τ).loc Cert.ReferenceIdeal.main_v79) i = v0 c i)
          ∧ (∀ i : (⟨3, ![2, 4096, 32]⟩ : Shape).Idx, (Cert.On_weights_and_late_indices.fn (F := Ideal) (m ((c.tc : Thread Cert.KernelNamed.nD Cert.KernelNamed.τ).loc Cert.KernelNamed.main_arg0)) (m ((c.tc : Thread Cert.KernelNamed.nD Cert.KernelNamed.τ).loc Cert.KernelNamed.main_arg1)) (m ((c.tc : Thread Cert.KernelNamed.nD Cert.KernelNamed.τ).loc Cert.KernelNamed.main_arg2)) (m ((c.tc : Thread Cert.KernelNamed.nD Cert.KernelNamed.τ).loc Cert.KernelNamed.main_arg3)) (m ((c.tc : Thread Cert.KernelNamed.nD Cert.KernelNamed.τ).loc Cert.KernelNamed.main_arg4)) (m ((c.tc : Thread Cert.KernelNamed.nD Cert.KernelNamed.τ).loc Cert.KernelNamed.main_arg5))).2 i = 1#1 → r.2.mem ((c.tc : Thread Cert.ReferenceIdeal.nD Cert.ReferenceIdeal.τ).loc Cert.ReferenceIdeal.main_v80) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hKernelNamed : Cert.KernelNamed.Facts) (hReferenceIdeal : Cert.ReferenceIdeal.Facts) (hPre_scores_separate : Cert.Pre_scores_separate.Facts) (hOn_indices_and_late_weights : Cert.On_indices_and_late_weights.Facts) (hOn_weights_and_late_indices : Cert.On_weights_and_late_indices.Facts),
    quiescent_Kernel (hKernel := hKernel)
    ∧ quiescent_KernelIdeal (hKernelIdeal := hKernelIdeal)
    ∧ quiescent_KernelIdeal_pre_scores_separate (hKernelIdeal := hKernelIdeal) (hPre_scores_separate := hPre_scores_separate)
    ∧ quiescent_KernelNamed (hKernelNamed := hKernelNamed)
    ∧ quiescent_KernelNamed_pre_scores_separate (hKernelNamed := hKernelNamed) (hPre_scores_separate := hPre_scores_separate)
    ∧ quiescent_ReferenceIdeal (hReferenceIdeal := hReferenceIdeal)
    ∧ quiescent_ReferenceIdeal_pre_scores_separate (hReferenceIdeal := hReferenceIdeal) (hPre_scores_separate := hPre_scores_separate)
    ∧ preserves_Kernel_KernelIdeal
    ∧ preserves_Kernel_KernelNamed
    ∧ algebraic_KernelIdeal_ReferenceIdeal_on_indices_and_late_weights_pre_scores_separate (hKernelIdeal := hKernelIdeal) (hReferenceIdeal := hReferenceIdeal) (hPre_scores_separate := hPre_scores_separate) (hOn_indices_and_late_weights := hOn_indices_and_late_weights)
    ∧ algebraic_KernelNamed_ReferenceIdeal_on_weights_and_late_indices_pre_scores_separate (hKernelNamed := hKernelNamed) (hReferenceIdeal := hReferenceIdeal) (hPre_scores_separate := hPre_scores_separate) (hOn_weights_and_late_indices := hOn_weights_and_late_indices)
-- ==== On_indices_and_late_weights.lean ====
abbrev S2x4096x2048 : Shape := ⟨3, ![2, 4096, 2048]⟩
abbrev S2x64x256 : Shape := ⟨3, ![2, 64, 256]⟩
abbrev S256x2048 : Shape := ⟨2, ![256, 2048]⟩
abbrev S2048 : Shape := ⟨1, ![2048]⟩
abbrev S256 : Shape := ⟨1, ![256]⟩
abbrev S2x4096x32 : Shape := ⟨3, ![2, 4096, 32]⟩
abbrev S_ : Shape := ⟨0, ![]⟩

class Facts : Prop where
  bcast_S_S2x4096x32 : S_.BroadcastsInDim S2x4096x32 (![] : Fin 0 → Fin S2x4096x32.rank)

variable [Facts]

def fn {F : FTy → Type} [FloatOps F] (main_arg0 : FVec F S2x4096x2048 .f32) (main_arg1 : FVec F S2x64x256 .f32) (main_arg2 : FVec F S256x2048 .f32) (main_arg3 : FVec F S2048 .f32) (main_arg4 : FVec F S256 .f32) (main_arg5 : FVec F S256 .f32) : IVec S2x4096x32 1 × IVec S2x4096x32 1 :=
  let main_v0 : IVec S2x4096x32 32 := iotaInDim S2x4096x32 32 1
  let main_c : IVec S_ 32 := constantI S_ 32 512#32
  let main_v1 : IVec S2x4096x32 32 := broadcastInDim S2x4096x32 ![] bcast_S_S2x4096x32 main_c
  let main_v2 : IVec S2x4096x32 1 := cmpi .sge main_v0 main_v1
  let main_v3 : IVec S2x4096x32 32 := iotaInDim S2x4096x32 32 1
  let main_c_0 : IVec S_ 32 := constantI S_ 32 0#32
  let main_v4 : IVec S2x4096x32 32 := broadcastInDim S2x4096x32 ![] bcast_S_S2x4096x32 main_c_0
  let main_v5 : IVec S2x4096x32 1 := cmpi .sge main_v3 main_v4
  (main_v2, main_v5)
-- ==== On_weights_and_late_indices.lean ====
abbrev S2x4096x2048 : Shape := ⟨3, ![2, 4096, 2048]⟩
abbrev S2x64x256 : Shape := ⟨3, ![2, 64, 256]⟩
abbrev S256x2048 : Shape := ⟨2, ![256, 2048]⟩
abbrev S2048 : Shape := ⟨1, ![2048]⟩
abbrev S256 : Shape := ⟨1, ![256]⟩
abbrev S2x4096x32 : Shape := ⟨3, ![2, 4096, 32]⟩
abbrev S_ : Shape := ⟨0, ![]⟩

class Facts : Prop where
  bcast_S_S2x4096x32 : S_.BroadcastsInDim S2x4096x32 (![] : Fin 0 → Fin S2x4096x32.rank)

variable [Facts]

def fn {F : FTy → Type} [FloatOps F] (main_arg0 : FVec F S2x4096x2048 .f32) (main_arg1 : FVec F S2x64x256 .f32) (main_arg2 : FVec F S256x2048 .f32) (main_arg3 : FVec F S2048 .f32) (main_arg4 : FVec F S256 .f32) (main_arg5 : FVec F S256 .f32) : IVec S2x4096x32 1 × IVec S2x4096x32 1 :=
  let main_v0 : IVec S2x4096x32 32 := iotaInDim S2x4096x32 32 1
  let main_c : IVec S_ 32 := constantI S_ 32 512#32
  let main_v1 : IVec S2x4096x32 32 := broadcastInDim S2x4096x32 ![] bcast_S_S2x4096x32 main_c
  let main_v2 : IVec S2x4096x32 1 := cmpi .sge main_v0 main_v1
  let main_v3 : IVec S2x4096x32 32 := iotaInDim S2x4096x32 32 1
  let main_c_0 : IVec S_ 32 := constantI S_ 32 0#32
  let main_v4 : IVec S2x4096x32 32 := broadcastInDim S2x4096x32 ![] bcast_S_S2x4096x32 main_c_0
  let main_v5 : IVec S2x4096x32 1 := cmpi .sge main_v3 main_v4
  (main_v5, main_v2)
-- ==== Pre_scores_separate.lean ====
abbrev S2x4096x2048 : Shape := ⟨3, ![2, 4096, 2048]⟩
abbrev S2x64x256 : Shape := ⟨3, ![2, 64, 256]⟩
abbrev S256x2048 : Shape := ⟨2, ![256, 2048]⟩
abbrev S2048 : Shape := ⟨1, ![2048]⟩
abbrev S256 : Shape := ⟨1, ![256]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x256 : Shape := ⟨2, ![2048, 256]⟩
abbrev S2x4096x256 : Shape := ⟨3, ![2, 4096, 256]⟩
abbrev S1x1x256 : Shape := ⟨3, ![1, 1, 256]⟩
abbrev S2x64 : Shape := ⟨2, ![2, 64]⟩
abbrev S2x64x1 : Shape := ⟨3, ![2, 64, 1]⟩
abbrev S2x4096x64 : Shape := ⟨3, ![2, 4096, 64]⟩
abbrev S4096 : Shape := ⟨1, ![4096]⟩
abbrev S1x4096x1 : Shape := ⟨3, ![1, 4096, 1]⟩
abbrev S64 : Shape := ⟨1, ![64]⟩
abbrev S1x1x64 : Shape := ⟨3, ![1, 1, 64]⟩
abbrev S1x4096x64 : Shape := ⟨3, ![1, 4096, 64]⟩
abbrev S64x1 : Shape := ⟨2, ![64, 1]⟩
abbrev S1x64 : Shape := ⟨2, ![1, 64]⟩
abbrev S64x64 : Shape := ⟨2, ![64, 64]⟩
abbrev S1x4096x64x1 : Shape := ⟨4, ![1, 4096, 64, 1]⟩
abbrev S1x1x64x64 : Shape := ⟨4, ![1, 1, 64, 64]⟩
abbrev S1x4096x64x64 : Shape := ⟨4, ![1, 4096, 64, 64]⟩
abbrev S2x4096x64x1 : Shape := ⟨4, ![2, 4096, 64, 1]⟩
abbrev S2x4096x1x64 : Shape := ⟨4, ![2, 4096, 1, 64]⟩
abbrev S2x4096x64x64 : Shape := ⟨4, ![2, 4096, 64, 64]⟩

class Facts : Prop where
  reducesTo_S2x4096x2048_S2x4096_d2 : S2x4096x2048.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x2048_0_1_2 : S2x4096x1.BroadcastsInDim S2x4096x2048 (![0, 1, 2] : Fin 3 → Fin S2x4096x2048.rank)
  bcast_S2048_S1x1x2048_2 : S2048.BroadcastsInDim S1x1x2048 (![2] : Fin 1 → Fin S1x1x2048.rank)
  bcast_S1x1x2048_S2x4096x2048_0_1_2 : S1x1x2048.BroadcastsInDim S2x4096x2048 (![0, 1, 2] : Fin 3 → Fin S2x4096x2048.rank)
  transposes_S256x2048_S2048x256_1_0 : S256x2048.Transposes [1, 0] S2048x256
  reducesTo_S2x4096x256_S2x4096_d2 : S2x4096x256.ReducesTo [2] S2x4096
  bcast_S2x4096x1_S2x4096x256_0_1_2 : S2x4096x1.BroadcastsInDim S2x4096x256 (![0, 1, 2] : Fin 3 → Fin S2x4096x256.rank)
  bcast_S256_S1x1x256_2 : S256.BroadcastsInDim S1x1x256 (![2] : Fin 1 → Fin S1x1x256.rank)
  bcast_S1x1x256_S2x4096x256_0_1_2 : S1x1x256.BroadcastsInDim S2x4096x256 (![0, 1, 2] : Fin 3 → Fin S2x4096x256.rank)
  reducesTo_S2x64x256_S2x64_d2 : S2x64x256.ReducesTo [2] S2x64
  bcast_S2x64_S2x64x1_0_1 : S2x64.BroadcastsInDim S2x64x1 (![0, 1] : Fin 2 → Fin S2x64x1.rank)
  bcast_S_S2x64x1 : S_.BroadcastsInDim S2x64x1 (![] : Fin 0 → Fin S2x64x1.rank)
  bcast_S2x64x1_S2x64x256_0_1_2 : S2x64x1.BroadcastsInDim S2x64x256 (![0, 1, 2] : Fin 3 → Fin S2x64x256.rank)
  bcast_S1x1x256_S2x64x256_0_1_2 : S1x1x256.BroadcastsInDim S2x64x256 (![0, 1, 2] : Fin 3 → Fin S2x64x256.rank)
  bcast_S_S2x4096x64 : S_.BroadcastsInDim S2x4096x64 (![] : Fin 0 → Fin S2x4096x64.rank)
  bcast_S4096_S1x4096x1_1 : S4096.BroadcastsInDim S1x4096x1 (![1] : Fin 1 → Fin S1x4096x1.rank)
  bcast_S_S64 : S_.BroadcastsInDim S64 (![] : Fin 0 → Fin S64.rank)
  bcast_S64_S1x1x64_2 : S64.BroadcastsInDim S1x1x64 (![2] : Fin 1 → Fin S1x1x64.rank)
  bcast_S1x4096x1_S1x4096x64_0_1_2 : S1x4096x1.BroadcastsInDim S1x4096x64 (![0, 1, 2] : Fin 3 → Fin S1x4096x64.rank)
  bcast_S1x1x64_S1x4096x64_0_1_2 : S1x1x64.BroadcastsInDim S1x4096x64 (![0, 1, 2] : Fin 3 → Fin S1x4096x64.rank)
  bcast_S_S2048 : S_.BroadcastsInDim S2048 (![] : Fin 0 → Fin S2048.rank)
  bcast_S1x4096x64_S2x4096x64_0_1_2 : S1x4096x64.BroadcastsInDim S2x4096x64 (![0, 1, 2] : Fin 3 → Fin S2x4096x64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S1x4096x64_S1x4096x64x1_0_1_2 : S1x4096x64.BroadcastsInDim S1x4096x64x1 (![0, 1, 2] : Fin 3 → Fin S1x4096x64x1.rank)
  bcast_S64x64_S1x1x64x64_2_3 : S64x64.BroadcastsInDim S1x1x64x64 (![2, 3] : Fin 2 → Fin S1x1x64x64.rank)
  bcast_S1x4096x64x1_S1x4096x64x64_0_1_2_3 : S1x4096x64x1.BroadcastsInDim S1x4096x64x64 (![0, 1, 2, 3] : Fin 4 → Fin S1x4096x64x64.rank)
  bcast_S1x1x64x64_S1x4096x64x64_0_1_2_3 : S1x1x64x64.BroadcastsInDim S1x4096x64x64 (![0, 1, 2, 3] : Fin 4 → Fin S1x4096x64x64.rank)
  bcast_S2x4096x64_S2x4096x64x1_0_1_2 : S2x4096x64.BroadcastsInDim S2x4096x64x1 (![0, 1, 2] : Fin 3 → Fin S2x4096x64x1.rank)
  bcast_S2x4096x64_S2x4096x1x64_0_1_3 : S2x4096x64.BroadcastsInDim S2x4096x1x64 (![0, 1, 3] : Fin 3 → Fin S2x4096x1x64.rank)
  bcast_S2x4096x64x1_S2x4096x64x64_0_1_2_3 : S2x4096x64x1.BroadcastsInDim S2x4096x64x64 (![0, 1, 2, 3] : Fin 4 → Fin S2x4096x64x64.rank)
  bcast_S2x4096x1x64_S2x4096x64x64_0_1_2_3 : S2x4096x1x64.BroadcastsInDim S2x4096x64x64 (![0, 1, 2, 3] : Fin 4 → Fin S2x4096x64x64.rank)
  bcast_S1x4096x64x64_S2x4096x64x64_0_1_2_3 : S1x4096x64x64.BroadcastsInDim S2x4096x64x64 (![0, 1, 2, 3] : Fin 4 → Fin S2x4096x64x64.rank)
  dot_S2x4096x2048_S2048x256_S2x4096x256_2_0_01_1_n_n_wf : DotDims.WF S2x4096x2048 S2048x256 S2x4096x256 [2] [0] [0, 1] [1] [] []
  dot_S2x4096x256_S2x64x256_S2x4096x64_2_2_1_1_0_0_wf : DotDims.WF S2x4096x256 S2x64x256 S2x4096x64 [2] [2] [1] [1] [0] [0]

variable [Facts]

def dot_S2x4096x2048_S2048x256_S2x4096x256_2_0_01_1_n_n : DotDims S2x4096x2048 S2048x256 S2x4096x256 where
  lhsContracting := [2]
  rhsContracting := [0]
  lhsNonContracting := [0, 1]
  rhsNonContracting := [1]
  lhsBatch := []
  rhsBatch := []
  wf := dot_S2x4096x2048_S2048x256_S2x4096x256_2_0_01_1_n_n_wf
def dot_S2x4096x256_S2x64x256_S2x4096x64_2_2_1_1_0_0 : DotDims S2x4096x256 S2x64x256 S2x4096x64 where
  lhsContracting := [2]
  rhsContracting := [2]
  lhsNonContracting := [1]
  rhsNonContracting := [1]
  lhsBatch := [0]
  rhsBatch := [0]
  wf := dot_S2x4096x256_S2x64x256_S2x4096x64_2_2_1_1_0_0_wf
def fn_part4 {F : FTy → Type} [FloatOps F] (main_v56 : IVec S2048 1) (main_v63 : IVec S2x4096x64 1) (main_v75 : IVec S1x4096x64x64 1) (main_v80 : IVec S2x4096x64x64 1) : IVec S2048 1 × IVec S2x4096x64 1 × IVec S2x4096x64x64 1 :=
  let main_v81 : IVec S2x4096x64x64 1 := broadcastInDim S2x4096x64x64 ![0, 1, 2, 3] bcast_S1x4096x64x64_S2x4096x64x64_0_1_2_3 main_v75
  let main_v82 : IVec S2x4096x64x64 1 := ori main_v81 main_v80
  (main_v56, main_v63, main_v82)

def fn_part3 {F : FTy → Type} [FloatOps F] (main_v43 : FVec F S2x4096x64 .f32) (main_v54 : IVec S1x4096x64 1) (main_v56 : IVec S2048 1) (main_v57 : FVec F S2x4096x64 .f32) : IVec S2048 1 × IVec S2x4096x64 1 × IVec S2x4096x64x64 1 :=
  let main_v58 : IVec S2x4096x64 1 := cmpf .oge main_v43 main_v57
  let main_cst_12 : FVec F S_ .f32 := constant S_ .f32 0x7F800000#32
  let main_v59 : FVec F S2x4096x64 .f32 := broadcastInDim S2x4096x64 ![] bcast_S_S2x4096x64 main_cst_12
  let main_v60 : IVec S2x4096x64 1 := cmpf .olt main_v43 main_v59
  let main_v61 : IVec S2x4096x64 1 := andi main_v58 main_v60
  let main_v62 : IVec S2x4096x64 1 := broadcastInDim S2x4096x64 ![0, 1, 2] bcast_S1x4096x64_S2x4096x64_0_1_2 main_v54
  let main_v63 : IVec S2x4096x64 1 := ori main_v62 main_v61
  let main_v64 : IVec S64 32 := iotaInDim S64 32 0
  let main_v65 : IVec S64x1 32 := broadcastInDim S64x1 ![0] bcast_S64_S64x1_0 main_v64
  let main_v66 : IVec S64 32 := iotaInDim S64 32 0
  let main_v67 : IVec S1x64 32 := broadcastInDim S1x64 ![1] bcast_S64_S1x64_1 main_v66
  let main_v68 : IVec S64x64 32 := broadcastInDim S64x64 ![0, 1] bcast_S64x1_S64x64_0_1 main_v65
  let main_v69 : IVec S64x64 32 := broadcastInDim S64x64 ![0, 1] bcast_S1x64_S64x64_0_1 main_v67
  let main_v70 : IVec S64x64 1 := cmpi .sle main_v68 main_v69
  let main_v71 : IVec S1x4096x64x1 1 := broadcastInDim S1x4096x64x1 ![0, 1, 2] bcast_S1x4096x64_S1x4096x64x1_0_1_2 main_v54
  let main_v72 : IVec S1x1x64x64 1 := broadcastInDim S1x1x64x64 ![2, 3] bcast_S64x64_S1x1x64x64_2_3 main_v70
  let main_v73 : IVec S1x4096x64x64 1 := broadcastInDim S1x4096x64x64 ![0, 1, 2, 3] bcast_S1x4096x64x1_S1x4096x64x64_0_1_2_3 main_v71
  let main_v74 : IVec S1x4096x64x64 1 := broadcastInDim S1x4096x64x64 ![0, 1, 2, 3] bcast_S1x1x64x64_S1x4096x64x64_0_1_2_3 main_v72
  let main_v75 : IVec S1x4096x64x64 1 := ori main_v73 main_v74
  let main_v76 : FVec F S2x4096x64x1 .f32 := broadcastInDim S2x4096x64x1 ![0, 1, 2] bcast_S2x4096x64_S2x4096x64x1_0_1_2 main_v43
  let main_v77 : FVec F S2x4096x1x64 .f32 := broadcastInDim S2x4096x1x64 ![0, 1, 3] bcast_S2x4096x64_S2x4096x1x64_0_1_3 main_v43
  let main_v78 : FVec F S2x4096x64x64 .f32 := broadcastInDim S2x4096x64x64 ![0, 1, 2, 3] bcast_S2x4096x64x1_S2x4096x64x64_0_1_2_3 main_v76
  let main_v79 : FVec F S2x4096x64x64 .f32 := broadcastInDim S2x4096x64x64 ![0, 1, 2, 3] bcast_S2x4096x1x64_S2x4096x64x64_0_1_2_3 main_v77
  let main_v80 : IVec S2x4096x64x64 1 := cmpf .une main_v78 main_v79
  fn_part4 (F := F) main_v56 main_v63 main_v75 main_v80

def fn_part2 {F : FTy → Type} [FloatOps F] (main_arg3 : FVec F S2048 .f32) (main_v27 : FVec F S2x4096x256 .f32) (main_v37 : FVec F S2x64x256 .f32) (main_v38 : FVec F S1x1x256 .f32) : IVec S2048 1 × IVec S2x4096x64 1 × IVec S2x4096x64x64 1 :=
  let main_v39 : FVec F S2x64x256 .f32 := broadcastInDim S2x64x256 ![0, 1, 2] bcast_S1x1x256_S2x64x256_0_1_2 main_v38
  let main_v40 : FVec F S2x64x256 .f32 := mulf main_v37 main_v39
  let main_v41 : FVec F S2x4096x64 .f32 := (fun l r => Host.dotGeneral dot_S2x4096x256_S2x64x256_S2x4096x64_2_2_1_1_0_0 none l r) main_v27 main_v40
  let main_cst_8 : FVec F S_ .f32 := constant S_ .f32 0x41800000#32
  let main_v42 : FVec F S2x4096x64 .f32 := broadcastInDim S2x4096x64 ![] bcast_S_S2x4096x64 main_cst_8
  let main_v43 : FVec F S2x4096x64 .f32 := Host.divf main_v41 main_v42
  let main_v44 : IVec S4096 32 := iotaInDim S4096 32 0
  let main_v45 : IVec S1x4096x1 32 := broadcastInDim S1x4096x1 ![1] bcast_S4096_S1x4096x1_1 main_v44
  let main_v46 : IVec S64 32 := iotaInDim S64 32 0
  let main_c : IVec S_ 32 := constantI S_ 32 1#32
  let main_v47 : IVec S64 32 := broadcastInDim S64 ![] bcast_S_S64 main_c
  let main_v48 : IVec S64 32 := addi main_v46 main_v47
  let main_c_9 : IVec S_ 32 := constantI S_ 32 64#32
  let main_v49 : IVec S64 32 := broadcastInDim S64 ![] bcast_S_S64 main_c_9
  let main_v50 : IVec S64 32 := muli main_v48 main_v49
  let main_v51 : IVec S1x1x64 32 := broadcastInDim S1x1x64 ![2] bcast_S64_S1x1x64_2 main_v50
  let main_v52 : IVec S1x4096x64 32 := broadcastInDim S1x4096x64 ![0, 1, 2] bcast_S1x4096x1_S1x4096x64_0_1_2 main_v45
  let main_v53 : IVec S1x4096x64 32 := broadcastInDim S1x4096x64 ![0, 1, 2] bcast_S1x1x64_S1x4096x64_0_1_2 main_v51
  let main_v54 : IVec S1x4096x64 1 := cmpi .slt main_v52 main_v53
  let main_cst_10 : FVec F S_ .f32 := constant S_ .f32 0x3F800000#32
  let main_v55 : FVec F S2048 .f32 := broadcastInDim S2048 ![] bcast_S_S2048 main_cst_10
  let main_v56 : IVec S2048 1 := cmpf .oeq main_arg3 main_v55
  let main_cst_11 : FVec F S_ .f32 := constant S_ .f32 0xEFA18F08#32
  let main_v57 : FVec F S2x4096x64 .f32 := broadcastInDim S2x4096x64 ![] bcast_S_S2x4096x64 main_cst_11
  fn_part3 (F := F) main_v43 main_v54 main_v56 main_v57

def fn_part1 {F : FTy → Type} [FloatOps F] (main_arg1 : FVec F S2x64x256 .f32) (main_arg3 : FVec F S2048 .f32) (main_arg4 : FVec F S256 .f32) (main_arg5 : FVec F S256 .f32) (main_v14 : FVec F S2x4096x256 .f32) (main_v17 : FVec F S2x4096x1 .f32) (main_v18 : FVec F S2x4096x1 .f32) : IVec S2048 1 × IVec S2x4096x64 1 × IVec S2x4096x64x64 1 :=
  let main_v19 : FVec F S2x4096x1 .f32 := Host.divf main_v17 main_v18
  let main_cst_4 : FVec F S_ .f32 := constant S_ .f32 0x358637BD#32
  let main_v20 : FVec F S2x4096x1 .f32 := broadcastInDim S2x4096x1 ![] bcast_S_S2x4096x1 main_cst_4
  let main_v21 : FVec F S2x4096x1 .f32 := addf main_v19 main_v20
  let main_v22 : FVec F S2x4096x1 .f32 := Host.rsqrt main_v21
  let main_v23 : FVec F S2x4096x256 .f32 := broadcastInDim S2x4096x256 ![0, 1, 2] bcast_S2x4096x1_S2x4096x256_0_1_2 main_v22
  let main_v24 : FVec F S2x4096x256 .f32 := mulf main_v14 main_v23
  let main_v25 : FVec F S1x1x256 .f32 := broadcastInDim S1x1x256 ![2] bcast_S256_S1x1x256_2 main_arg4
  let main_v26 : FVec F S2x4096x256 .f32 := broadcastInDim S2x4096x256 ![0, 1, 2] bcast_S1x1x256_S2x4096x256_0_1_2 main_v25
  let main_v27 : FVec F S2x4096x256 .f32 := mulf main_v24 main_v26
  let main_v28 : FVec F S2x64x256 .f32 := mulf main_arg1 main_arg1
  let main_cst_5 : FVec F S_ .f32 := constant S_ .f32 0x00000000#32
  let main_v29 : FVec F S2x64 .f32 := (fun x v => Host.reduceAdd x v reducesTo_S2x64x256_S2x64_d2 h_S_) main_v28 main_cst_5
  let main_v30 : FVec F S2x64x1 .f32 := broadcastInDim S2x64x1 ![0, 1] bcast_S2x64_S2x64x1_0_1 main_v29
  let main_cst_6 : FVec F S_ .f32 := constant S_ .f32 0x43800000#32
  let main_v31 : FVec F S2x64x1 .f32 := broadcastInDim S2x64x1 ![] bcast_S_S2x64x1 main_cst_6
  let main_v32 : FVec F S2x64x1 .f32 := Host.divf main_v30 main_v31
  let main_cst_7 : FVec F S_ .f32 := constant S_ .f32 0x358637BD#32
  let main_v33 : FVec F S2x64x1 .f32 := broadcastInDim S2x64x1 ![] bcast_S_S2x64x1 main_cst_7
  let main_v34 : FVec F S2x64x1 .f32 := addf main_v32 main_v33
  let main_v35 : FVec F S2x64x1 .f32 := Host.rsqrt main_v34
  let main_v36 : FVec F S2x64x256 .f32 := broadcastInDim S2x64x256 ![0, 1, 2] bcast_S2x64x1_S2x64x256_0_1_2 main_v35
  let main_v37 : FVec F S2x64x256 .f32 := mulf main_arg1 main_v36
  let main_v38 : FVec F S1x1x256 .f32 := broadcastInDim S1x1x256 ![2] bcast_S256_S1x1x256_2 main_arg5
  fn_part2 (F := F) main_arg3 main_v27 main_v37 main_v38

def fn {F : FTy → Type} [FloatOps F] (main_arg0 : FVec F S2x4096x2048 .f32) (main_arg1 : FVec F S2x64x256 .f32) (main_arg2 : FVec F S256x2048 .f32) (main_arg3 : FVec F S2048 .f32) (main_arg4 : FVec F S256 .f32) (main_arg5 : FVec F S256 .f32) : IVec S2048 1 × IVec S2x4096x64 1 × IVec S2x4096x64x64 1 :=
  let main_v0 : FVec F S2x4096x2048 .f32 := mulf main_arg0 main_arg0
  let main_cst : FVec F S_ .f32 := constant S_ .f32 0x00000000#32
  let main_v1 : FVec F S2x4096 .f32 := (fun x v => Host.reduceAdd x v reducesTo_S2x4096x2048_S2x4096_d2 h_S_) main_v0 main_cst
  let main_v2 : FVec F S2x4096x1 .f32 := broadcastInDim S2x4096x1 ![0, 1] bcast_S2x4096_S2x4096x1_0_1 main_v1
  let main_cst_0 : FVec F S_ .f32 := constant S_ .f32 0x45000000#32
  let main_v3 : FVec F S2x4096x1 .f32 := broadcastInDim S2x4096x1 ![] bcast_S_S2x4096x1 main_cst_0
  let main_v4 : FVec F S2x4096x1 .f32 := Host.divf main_v2 main_v3
  let main_cst_1 : FVec F S_ .f32 := constant S_ .f32 0x358637BD#32
  let main_v5 : FVec F S2x4096x1 .f32 := broadcastInDim S2x4096x1 ![] bcast_S_S2x4096x1 main_cst_1
  let main_v6 : FVec F S2x4096x1 .f32 := addf main_v4 main_v5
  let main_v7 : FVec F S2x4096x1 .f32 := Host.rsqrt main_v6
  let main_v8 : FVec F S2x4096x2048 .f32 := broadcastInDim S2x4096x2048 ![0, 1, 2] bcast_S2x4096x1_S2x4096x2048_0_1_2 main_v7
  let main_v9 : FVec F S2x4096x2048 .f32 := mulf main_arg0 main_v8
  let main_v10 : FVec F S1x1x2048 .f32 := broadcastInDim S1x1x2048 ![2] bcast_S2048_S1x1x2048_2 main_arg3
  let main_v11 : FVec F S2x4096x2048 .f32 := broadcastInDim S2x4096x2048 ![0, 1, 2] bcast_S1x1x2048_S2x4096x2048_0_1_2 main_v10
  let main_v12 : FVec F S2x4096x2048 .f32 := mulf main_v9 main_v11
  let main_v13 : FVec F S2048x256 .f32 := (transpose S2048x256 [1, 0] · transposes_S256x2048_S2048x256_1_0) main_arg2
  let main_v14 : FVec F S2x4096x256 .f32 := (fun l r => Host.dotGeneral dot_S2x4096x2048_S2048x256_S2x4096x256_2_0_01_1_n_n none l r) main_v12 main_v13
  let main_v15 : FVec F S2x4096x256 .f32 := mulf main_v14 main_v14
  let main_cst_2 : FVec F S_ .f32 := constant S_ .f32 0x00000000#32
  let main_v16 : FVec F S2x4096 .f32 := (fun x v => Host.reduceAdd x v reducesTo_S2x4096x256_S2x4096_d2 h_S_) main_v15 main_cst_2
  let main_v17 : FVec F S2x4096x1 .f32 := broadcastInDim S2x4096x1 ![0, 1] bcast_S2x4096_S2x4096x1_0_1 main_v16
  let main_cst_3 : FVec F S_ .f32 := constant S_ .f32 0x43800000#32
  let main_v18 : FVec F S2x4096x1 .f32 := broadcastInDim S2x4096x1 ![] bcast_S_S2x4096x1 main_cst_3
  fn_part1 (F := F) main_arg1 main_arg3 main_arg4 main_arg5 main_v14 main_v17 main_v18
-- ==== Kernel.lean ====
abbrev S2x4096x2048 : Shape := ⟨3, ![2, 4096, 2048]⟩
abbrev S2x64x256 : Shape := ⟨3, ![2, 64, 256]⟩
abbrev S256x2048 : Shape := ⟨2, ![256, 2048]⟩
abbrev S2048 : Shape := ⟨1, ![2048]⟩
abbrev S256 : Shape := ⟨1, ![256]⟩
abbrev S1x256 : Shape := ⟨2, ![1, 256]⟩
abbrev S2x4096x32 : Shape := ⟨3, ![2, 4096, 32]⟩
abbrev S1x1024x2048 : Shape := ⟨3, ![1, 1024, 2048]⟩
abbrev S1x64x256 : Shape := ⟨3, ![1, 64, 256]⟩
abbrev S1x1024x32 : Shape := ⟨3, ![1, 1024, 32]⟩
abbrev S1024x2048 : Shape := ⟨2, ![1024, 2048]⟩
abbrev S1024 : Shape := ⟨1, ![1024]⟩
abbrev S1024x1 : Shape := ⟨2, ![1024, 1]⟩
abbrev S1024x256 : Shape := ⟨2, ![1024, 256]⟩
abbrev S64x256 : Shape := ⟨2, ![64, 256]⟩
abbrev S64 : Shape := ⟨1, ![64]⟩
abbrev S64x1 : Shape := ⟨2, ![64, 1]⟩
abbrev S64x1024 : Shape := ⟨2, ![64, 1024]⟩
abbrev S1x1024 : Shape := ⟨2, ![1, 1024]⟩
abbrev S64x64 : Shape := ⟨2, ![64, 64]⟩
abbrev S1024x1024 : Shape := ⟨2, ![1024, 1024]⟩
abbrev S512x1024 : Shape := ⟨2, ![512, 1024]⟩
abbrev S1024x32 : Shape := ⟨2, ![1024, 32]⟩
abbrev S512x32 : Shape := ⟨2, ![512, 32]⟩

abbrev nBuf : Space → Nat
  | .hbm => 11
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2x64x256, .f32⟩
  | .hbm, ⟨2, _⟩ => ⟨S256x2048, .f32⟩
  | .hbm, ⟨3, _⟩ => ⟨S2048, .f32⟩
  | .hbm, ⟨4, _⟩ => ⟨S256, .f32⟩
  | .hbm, ⟨5, _⟩ => ⟨S256, .f32⟩
  | .hbm, ⟨6, _⟩ => ⟨S256x2048, .bf16⟩
  | .hbm, ⟨7, _⟩ => ⟨S1x256, .f32⟩
  | .hbm, ⟨8, _⟩ => ⟨S1x256, .f32⟩
  | .hbm, ⟨9, _⟩ => ⟨S2x4096x32, .f32⟩
  | .hbm, ⟨10, _⟩ => ⟨S2x4096x32, .i32⟩
  | .local _ .vmem, ⟨0, _⟩ => ⟨S1x1024x2048, .f32⟩
  | .local _ .vmem, ⟨1, _⟩ => ⟨S1x1024x2048, .f32⟩
  | .local _ .vmem, ⟨2, _⟩ => ⟨S1x64x256, .f32⟩
  | .local _ .vmem, ⟨3, _⟩ => ⟨S1x64x256, .f32⟩
  | .local _ .vmem, ⟨4, _⟩ => ⟨S256x2048, .bf16⟩
  | .local _ .vmem, ⟨5, _⟩ => ⟨S1x256, .f32⟩
  | .local _ .vmem, ⟨6, _⟩ => ⟨S1x256, .f32⟩
  | .local _ .vmem, ⟨7, _⟩ => ⟨S1x1024x32, .f32⟩
  | .local _ .vmem, ⟨8, _⟩ => ⟨S1x1024x32, .f32⟩
  | .local _ .vmem, ⟨9, _⟩ => ⟨S1x1024x32, .i32⟩
  | .local _ .vmem, ⟨10, _⟩ => ⟨S1x1024x32, .i32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x32 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelNamed.lean ====
variable {F : FTy → Type} [FloatOps F] [Named F]
def κ : String → Option EReal := fun
  | "mask" => some ⊥
  | _ => none
-- ==== ReferenceIdeal.lean ====
abbrev S2x4096x2048 : Shape := ⟨3, ![2, 4096, 2048]⟩
abbrev S2x64x256 : Shape := ⟨3, ![2, 64, 256]⟩
abbrev S256x2048 : Shape := ⟨2, ![256, 2048]⟩
abbrev S2048 : Shape := ⟨1, ![2048]⟩
abbrev S256 : Shape := ⟨1, ![256]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x256 : Shape := ⟨2, ![2048, 256]⟩
abbrev S2x4096x256 : Shape := ⟨3, ![2, 4096, 256]⟩
abbrev S1x1x256 : Shape := ⟨3, ![1, 1, 256]⟩
abbrev S2x64 : Shape := ⟨2, ![2, 64]⟩
abbrev S2x64x1 : Shape := ⟨3, ![2, 64, 1]⟩
abbrev S2x4096x64 : Shape := ⟨3, ![2, 4096, 64]⟩
abbrev S4096 : Shape := ⟨1, ![4096]⟩
abbrev S1x4096x1 : Shape := ⟨3, ![1, 4096, 1]⟩
abbrev S64 : Shape := ⟨1, ![64]⟩
abbrev S1x1x64 : Shape := ⟨3, ![1, 1, 64]⟩
abbrev S1x4096x64 : Shape := ⟨3, ![1, 4096, 64]⟩
abbrev S2x4096x8 : Shape := ⟨3, ![2, 4096, 8]⟩
abbrev S2x4096x8x1 : Shape := ⟨4, ![2, 4096, 8, 1]⟩
abbrev S1 : Shape := ⟨1, ![1]⟩
abbrev S1x1x1x1 : Shape := ⟨4, ![1, 1, 1, 1]⟩
abbrev S2x4096x1x8 : Shape := ⟨4, ![2, 4096, 1, 8]⟩
abbrev S2x4096x4x8 : Shape := ⟨4, ![2, 4096, 4, 8]⟩
abbrev S2x4096x32 : Shape := ⟨3, ![2, 4096, 32]⟩

abbrev nBuf : Space → Nat
  | .hbm => 139
  | .vmem => 0
  | .smem => 0
  | _ => 0

abbrev hbmTy0_0 (i : Nat) : BufTy := match i % 128 with
  | 0 => ⟨S2x4096x2048, .f32⟩
  | 1 => ⟨S2x64x256, .f32⟩
  | 2 => ⟨S256x2048, .f32⟩
  | 3 => ⟨S2048, .f32⟩
  | 4 => ⟨S256, .f32⟩
  | 5 => ⟨S256, .f32⟩
  | 6 => ⟨S2x4096x2048, .f32⟩
  | 7 => ⟨S_, .f32⟩
  | 8 => ⟨S2x4096, .f32⟩
  | 9 => ⟨S2x4096x1, .f32⟩
  | 10 => ⟨S_, .f32⟩
  | 11 => ⟨S2x4096x1, .f32⟩
  | 12 => ⟨S2x4096x1, .f32⟩
  | 13 => ⟨S_, .f32⟩
  | 14 => ⟨S2x4096x1, .f32⟩
  | 15 => ⟨S2x4096x1, .f32⟩
  | 16 => ⟨S2x4096x1, .f32⟩
  | 17 => ⟨S2x4096x2048, .f32⟩
  | 18 => ⟨S2x4096x2048, .f32⟩
  | 19 => ⟨S1x1x2048, .f32⟩
  | 20 => ⟨S2x4096x2048, .f32⟩
  | 21 => ⟨S2x4096x2048, .f32⟩
  | 22 => ⟨S2048x256, .f32⟩
  | 23 => ⟨S2x4096x256, .f32⟩
  | 24 => ⟨S2x4096x256, .f32⟩
  | 25 => ⟨S_, .f32⟩
  | 26 => ⟨S2x4096, .f32⟩
  | 27 => ⟨S2x4096x1, .f32⟩
  | 28 => ⟨S_, .f32⟩
  | 29 => ⟨S2x4096x1, .f32⟩
  | 30 => ⟨S2x4096x1, .f32⟩
  | 31 => ⟨S_, .f32⟩
  | 32 => ⟨S2x4096x1, .f32⟩
  | 33 => ⟨S2x4096x1, .f32⟩
  | 34 => ⟨S2x4096x1, .f32⟩
  | 35 => ⟨S2x4096x256, .f32⟩
  | 36 => ⟨S2x4096x256, .f32⟩
  | 37 => ⟨S1x1x256, .f32⟩
  | 38 => ⟨S2x4096x256, .f32⟩
  | 39 => ⟨S2x4096x256, .f32⟩
  | 40 => ⟨S2x64x256, .f32⟩
  | 41 => ⟨S_, .f32⟩
  | 42 => ⟨S2x64, .f32⟩
  | 43 => ⟨S2x64x1, .f32⟩
  | 44 => ⟨S_, .f32⟩
  | 45 => ⟨S2x64x1, .f32⟩
  | 46 => ⟨S2x64x1, .f32⟩
  | 47 => ⟨S_, .f32⟩
  | 48 => ⟨S2x64x1, .f32⟩
  | 49 => ⟨S2x64x1, .f32⟩
  | 50 => ⟨S2x64x1, .f32⟩
  | 51 => ⟨S2x64x256, .f32⟩
  | 52 => ⟨S2x64x256, .f32⟩
  | 53 => ⟨S1x1x256, .f32⟩
  | 54 => ⟨S2x64x256, .f32⟩
  | 55 => ⟨S2x64x256, .f32⟩
  | 56 => ⟨S2x4096x64, .f32⟩
  | 57 => ⟨S_, .f32⟩
  | 58 => ⟨S2x4096x64, .f32⟩
  | 59 => ⟨S2x4096x64, .f32⟩
  | 60 => ⟨S4096, .i32⟩
  | 61 => ⟨S1x4096x1, .i32⟩
  | 62 => ⟨S64, .i32⟩
  | 63 => ⟨S_, .i32⟩
  | 64 => ⟨S64, .i32⟩
  | 65 => ⟨S64, .i32⟩
  | 66 => ⟨S_, .i32⟩
  | 67 => ⟨S64, .i32⟩
  | 68 => ⟨S64, .i32⟩
  | 69 => ⟨S1x1x64, .i32⟩
  | 70 => ⟨S1x4096x64, .i32⟩
  | 71 => ⟨S1x4096x64, .i32⟩
  | 72 => ⟨S1x4096x64, .i1⟩
  | 73 => ⟨S_, .f32⟩
  | 74 => ⟨S_, .f32⟩
  | 75 => ⟨S2x4096x64, .i1⟩
  | 76 => ⟨S2x4096x64, .f32⟩
  | 77 => ⟨S2x4096x64, .f32⟩
  | 78 => ⟨S2x4096x8, .f32⟩
  | 79 => ⟨S2x4096x8, .i32⟩
  | 80 => ⟨S2x4096x8, .i32⟩
  | 81 => ⟨S_, .i32⟩
  | 82 => ⟨S2x4096x8, .i32⟩
  | 83 => ⟨S2x4096x8, .i1⟩
  | 84 => ⟨S_, .i32⟩
  | 85 => ⟨S2x4096x8, .i32⟩
  | 86 => ⟨S2x4096x8, .i32⟩
  | 87 => ⟨S2x4096x8, .i32⟩
  | 88 => ⟨S2x4096x8x1, .i32⟩
  | 89 => ⟨S1, .i32⟩
  | 90 => ⟨S_, .i32⟩
  | 91 => ⟨S2x4096x8x1, .i32⟩
  | 92 => ⟨S2x4096x8x1, .i1⟩
  | 93 => ⟨S1x1x1x1, .i32⟩
  | 94 => ⟨S2x4096x8x1, .i32⟩
  | 95 => ⟨S2x4096x8x1, .i1⟩
  | 96 => ⟨S2x4096x8x1, .i1⟩
  | 97 => ⟨S_, .i1⟩
  | 98 => ⟨S2x4096x8, .i1⟩
  | 99 => ⟨S2x4096x8, .f32⟩
  | 100 => ⟨S_, .f32⟩
  | 101 => ⟨S2x4096x8, .f32⟩
  | 102 => ⟨S2x4096x8, .f32⟩
  | 103 => ⟨S_, .f32⟩
  | 104 => ⟨S2x4096x8, .f32⟩
  | 105 => ⟨S2x4096x8, .i1⟩
  | 106 => ⟨S_, .i1⟩
  | 107 => ⟨S2x4096, .i1⟩
  | 108 => ⟨S2x4096x1, .i1⟩
  | 109 => ⟨S_, .f32⟩
  | 110 => ⟨S_, .f32⟩
  | 111 => ⟨S2x4096x8, .i1⟩
  | 112 => ⟨S2x4096x8, .f32⟩
  | 113 => ⟨S2x4096x8, .f32⟩
  | 114 => ⟨S_, .f32⟩
  | 115 => ⟨S2x4096, .f32⟩
  | 116 => ⟨S_, .f32⟩
  | 117 => ⟨S2x4096, .f32⟩
  | 118 => ⟨S2x4096, .f32⟩
  | 119 => ⟨S2x4096x1, .f32⟩
  | 120 => ⟨S2x4096x8, .f32⟩
  | 121 => ⟨S2x4096x8, .f32⟩
  | 122 => ⟨S2x4096x8, .f32⟩
  | 123 => ⟨S_, .f32⟩
  | 124 => ⟨S2x4096, .f32⟩
  | 125 => ⟨S2x4096x1, .f32⟩
  | 126 => ⟨S2x4096x8, .f32⟩
  | 127 => ⟨S2x4096x8, .f32⟩
  | _ => ⟨S2x4096x2048, .f32⟩

abbrev hbmTy0_1 (i : Nat) : BufTy := match i % 128 with
  | 0 => ⟨S_, .f32⟩
  | 1 => ⟨S_, .f32⟩
  | 2 => ⟨S2x4096x8, .i1⟩
  | 3 => ⟨S2x4096x8, .f32⟩
  | 4 => ⟨S2x4096x8, .f32⟩
  | 5 => ⟨S2x4096x1x8, .f32⟩
  | 6 => ⟨S2x4096x4x8, .f32⟩
  | 7 => ⟨S2x4096x1x8, .i32⟩
  | 8 => ⟨S2x4096x4x8, .i32⟩
  | 9 => ⟨S2x4096x32, .f32⟩
  | 10 => ⟨S2x4096x32, .i32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v55 : Ref sig .tc := ⟨.hbm, 77, rfl⟩
abbrev main_values : Ref sig .tc := ⟨.hbm, 78, rfl⟩
abbrev main_indices : Ref sig .tc := ⟨.hbm, 79, rfl⟩
abbrev main_v56 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_cst : Ref sig .tc := ⟨.hbm, 100, rfl⟩
abbrev main_call2_v14 : Ref sig .tc := ⟨.hbm, 101, rfl⟩
abbrev main_v57 : Ref sig .tc := ⟨.hbm, 102, rfl⟩
abbrev main_cst_11 : Ref sig .tc := ⟨.hbm, 103, rfl⟩
abbrev main_v58 : Ref sig .tc := ⟨.hbm, 104, rfl⟩
abbrev main_v59 : Ref sig .tc := ⟨.hbm, 105, rfl⟩
abbrev main_c_12 : Ref sig .tc := ⟨.hbm, 106, rfl⟩
abbrev main_v60 : Ref sig .tc := ⟨.hbm, 107, rfl⟩
abbrev main_v61 : Ref sig .tc := ⟨.hbm, 108, rfl⟩
abbrev main_cst_13 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v62 : Ref sig .tc := ⟨.hbm, 113, rfl⟩
abbrev main_cst_14 : Ref sig .tc := ⟨.hbm, 114, rfl⟩
abbrev main_v63 : Ref sig .tc := ⟨.hbm, 115, rfl⟩
abbrev main_cst_15 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_cst_16 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_17 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩

abbrev nD : Nat := 1
abbrev τ : Topo := Topo.v7x

variable {F : FTy → Type} [FloatOps F]
-- ==== Proof.Rounds.lean ====
/- Eight rounds of "strike out the largest": on a column of 64 extended reals, each round replaces every entry equal to
   the column's largest by a fixed small value. When the entries are separated, what eight rounds strike out are exactly
   the first entries of a decreasing listing of the column. -/
module

public import Idealize.ShloMosaic.PureOps.Ideal

@[expose] public section

noncomputable section

namespace Cert.Proof

/-- The largest entry of a column. -/
def top (w : Fin 64 → EReal) : EReal := Finset.univ.sup w

/-- One round: every entry equal to the largest is replaced by `K`. -/
def strike (K : EReal) (w : Fin 64 → EReal) (c : Fin 64) : EReal := if w c = top w then K else w c

/-- The entries that eight rounds changed. -/
def selected (K : EReal) (st : Fin 64 → EReal) (c : Fin 64) : Prop := (strike K)^[8] st c ≠ st c

/-- A listing `σ` of eight positions whose first `m` carry the largest entries of `st`, in decreasing order, all above `K`;
    either `m` is eight, or there is at least one such position and every other entry lies below `K`. -/
structure Leading (K : EReal) (st : Fin 64 → EReal) (σ : Fin 8 → Fin 64) (m : ℕ) : Prop where
  le : m ≤ 8
  above : ∀ i : Fin 8, i.val < m → K < st (σ i)
  desc : ∀ i j : Fin 8, i < j → j.val < m → st (σ j) < st (σ i)
  rest : ∀ c : Fin 64, (∀ j : Fin 8, j.val < m → σ j ≠ c) → ∀ i : Fin 8, i.val < m → st c < st (σ i)
  full : m = 8 ∨ (1 ≤ m ∧ ∀ c : Fin 64, (∀ j : Fin 8, j.val < m → σ j ≠ c) → st c < K)

variable {K : EReal} {st : Fin 64 → EReal} {σ : Fin 8 → Fin 64} {m : ℕ}

/-- The column after `i` rounds: the first `i` listed positions are struck out, the rest is as it was. -/
theorem Leading.rounds (h : Leading K st σ m) (i : ℕ) (hi : i ≤ 8) (c : Fin 64) :
    ((strike K)^[i] st c = K ∧ ∃ j : Fin 8, j.val < i ∧ j.val < m ∧ σ j = c) ∨
      ((strike K)^[i] st c = st c ∧ ∀ j : Fin 8, j.val < i → j.val < m → σ j ≠ c) := by
  induction i generalizing c with
  | zero => exact Or.inr ⟨rfl, fun j hj => absurd hj (Nat.not_lt_zero _)⟩
  | succ i ih =>
    have ih := fun c => ih (Nat.le_of_succ_le hi) c
    rw [Function.iterate_succ_apply']
    set w := (strike K)^[i] st with hw
    by_cases him : i < m
    · -- the largest entry left is the one listed at `i`
      have h8 : i < 8 := hi
      set I : Fin 8 := ⟨i, h8⟩ with hI
      have hwI : w (σ I) = st (σ I) := by
        rcases ih (σ I) with ⟨_, j, hj, hjm, hjc⟩ | ⟨h1, _⟩
        · have := h.desc j I hj him
          rw [hjc] at this
          exact absurd this (lt_irrefl _)
        · exact h1
      have hle : ∀ c, w c ≤ st (σ I) ∧ (w c = st (σ I) → c = σ I) := by
        intro c
        rcases ih c with ⟨h1, _⟩ | ⟨h1, h2⟩
        · rw [h1]
          exact ⟨(h.above I him).le, fun h3 => absurd h3 (h.above I him).ne⟩
        · rw [h1]
          by_cases hc : ∃ j : Fin 8, j.val < m ∧ σ j = c
          · obtain ⟨j, hjm, rfl⟩ := hc
            have hij : ¬ j.val < i := fun hji => h2 j hji hjm rfl
            rcases Nat.lt_or_ge i j.val with hlt | hge
            · have := h.desc I j hlt hjm
              exact ⟨this.le, fun h3 => absurd h3 this.ne⟩
            · have : j = I := Fin.ext (by show j.val = i; omega)
              subst this
              exact ⟨le_rfl, fun _ => rfl⟩
          · have := h.rest c (fun j hjm hjc => hc ⟨j, hjm, hjc⟩) I him
            exact ⟨this.le, fun h3 => absurd h3 this.ne⟩
      have htop : top w = st (σ I) :=
        le_antisymm (Finset.sup_le fun c _ => (hle c).1) (by rw [← hwI]; exact Finset.le_sup (Finset.mem_univ _))
      unfold strike
      rw [htop]
      by_cases hcI : w c = st (σ I)
      · rw [if_pos hcI]
        exact Or.inl ⟨rfl, I, Nat.lt_succ_self i, him, ((hle c).2 hcI).symm⟩
      · rw [if_neg hcI]
        rcases ih c with ⟨h1, j, hj, hjm, hjc⟩ | ⟨h1, h2⟩
        · exact Or.inl ⟨h1, j, Nat.lt_succ_of_lt hj, hjm, hjc⟩
        · refine Or.inr ⟨h1, fun j hj hjm hjc => ?_⟩
          rcases Nat.lt_or_ge j.val i with hlt | hge
          · exact h2 j hlt hjm hjc
          · have : j = I := Fin.ext (by show j.val = i; omega)
            subst this
            exact hcI (by rw [← hjc, hwI])
    · -- every listed position is struck out: a further round strikes the same ones
      obtain ⟨h1m, hrest⟩ : 1 ≤ m ∧ ∀ c : Fin 64, (∀ j : Fin 8, j.val < m → σ j ≠ c) → st c < K := by
        rcases h.full with h8 | h8
        · omega
        · exact h8
      have hle : ∀ c, w c ≤ K := by
        intro c
        rcases ih c with ⟨h1, _⟩ | ⟨h1, h2⟩
        · exact h1.le
        · rw [h1]
          exact (hrest c fun j hjm => h2 j (by omega) hjm).le
      have h0 : w (σ 0) = K := by
        rcases ih (σ 0) with ⟨h1, _⟩ | ⟨h1, h2⟩
        · exact h1
        · exact absurd rfl (h2 0 (by simp; omega) (by simp; omega))
      have htop : top w = K :=
        le_antisymm (Finset.sup_le fun c _ => hle c) (by rw [← h0]; exact Finset.le_sup (Finset.mem_univ _))
      have hs : strike K w c = w c := by
        unfold strike
        rw [htop]
        split
        · next hc => exact hc.symm
        · rfl
      rw [hs]
      rcases ih c with ⟨h1, j, hj, hjm, hjc⟩ | ⟨h1, h2⟩
      · exact Or.inl ⟨h1, j, by omega, hjm, hjc⟩
      · exact Or.inr ⟨h1, fun j _ hjm => h2 j (by omega) hjm⟩

/-- WHAT EIGHT ROUNDS SELECT: exactly the first `m` listed positions. -/
theorem Leading.selected_iff (h : Leading K st σ m) (c : Fin 64) :
    selected K st c ↔ ∃ j : Fin 8, j.val < m ∧ σ j = c := by
  unfold selected
  rcases h.rounds 8 le_rfl c with ⟨h1, j, _, hjm, hjc⟩ | ⟨h1, h2⟩
  · rw [h1]
    refine ⟨fun _ => ⟨j, hjm, hjc⟩, fun _ hK => ?_⟩
    have := h.above j hjm
    rw [hjc, ← hK] at this
    exact absurd this (lt_irrefl _)
  · rw [h1]
    exact ⟨fun hne => absurd rfl hne, fun ⟨j, hjm, hjc⟩ => absurd hjc (h2 j j.isLt hjm)⟩

/-- The column's largest entry is the one listed first. -/
theorem Leading.top_eq (h : Leading K st σ m) (hm : 0 < m) : top st = st (σ 0) := by
  refine le_antisymm (Finset.sup_le fun c _ => ?_) (Finset.le_sup (Finset.mem_univ _))
  by_cases hc : ∃ j : Fin 8, j.val < m ∧ σ j = c
  · obtain ⟨j, hjm, rfl⟩ := hc
    rcases Nat.eq_zero_or_pos j.val with h0 | h0
    · rw [show j = 0 from Fin.ext h0]
    · exact (h.desc 0 j h0 hjm).le
  · exact (h.rest c (fun j hjm hjc => hc ⟨j, hjm, hjc⟩) 0 hm).le

/-- A column whose entries are all equal is struck out whole by the first round and stays so. -/
theorem strike_const {a : EReal} (h : ∀ c, st c = a) (i : ℕ) (c : Fin 64) : (strike K)^[i + 1] st c = K := by
  have h1 : ∀ (w : Fin 64 → EReal) (b : EReal), (∀ c, w c = b) → ∀ c, strike K w c = K := by
    intro w b hb c
    have ht : top w = b :=
      le_antisymm (Finset.sup_le fun c _ => (hb c).le) ((hb c).symm.le.trans (Finset.le_sup (Finset.mem_univ c)))
    unfold strike
    rw [if_pos ((hb c).trans ht.symm)]
  induction i generalizing c with
  | zero => exact h1 st a h c
  | succ i ih =>
    rw [Function.iterate_succ_apply']
    exact h1 _ K ih c

end Cert.Proof

end
-- ==== Proof.Row.lean ====
/- One row of the result, as a function of that row's 64 masked scores: what the kernel computes from the column it keeps
   (the selected entries, their exponentials over the sum, the slot each lands in), what the reference computes from the
   eight scores it gathered, and the two theorems that they agree once the kernel's selection is the reference's. -/
module

public import proofs.«01_k».proof.Proof.Rounds

@[expose] public section

noncomputable section

open Idealize.ShloMosaic
open scoped Classical

namespace Cert.Proof

/-! ## The kernel's row -/

/-- What the kernel subtracts before exponentiating: the largest score, or zero where that lies below `T`. -/
def shift (T : EReal) (st : Fin 64 → EReal) : EReal := if top st < T then 0 else top st

/-- The exponential of a selected entry, zero elsewhere. -/
def num (K T : EReal) (st : Fin 64 → EReal) (c : Fin 64) : EReal :=
  if selected K st c then Ideal.exp (st c - shift T st) else 0

/-- The sum the exponentials are divided by: one more where the largest score lies below `T`. -/
def denom (K T : EReal) (st : Fin 64 → EReal) : EReal := ∑ c, num K T st c + (if top st < T then 1 else 0)

/-- The weight of an entry. -/
def weight (K T : EReal) (st : Fin 64 → EReal) (c : Fin 64) : EReal := Ideal.div (num K T st c) (denom K T st)

/-- How many selected entries precede entry `c`. -/
def slot (K : EReal) (st : Fin 64 → EReal) (c : Fin 64) : EReal :=
  ∑ k : Fin 64, (if k < c then (1 : EReal) else 0) * (if selected K st k then 1 else 0)

/-- The weight in slot `p`: the entries of that slot summed, and the remainders left by cutting each in two. -/
def outW (K T : EReal) (st : Fin 64 → EReal) (p : Fin 8) : EReal :=
  ∑ c, (if slot K st c = ((p.val : ℕ) : EReal) then weight K T st c else 0) +
    ∑ c, (if slot K st c = ((p.val : ℕ) : EReal) then weight K T st c - weight K T st c else 0)

/-- The index in slot `p`. -/
def outI (K : EReal) (st : Fin 64 → EReal) (p : Fin 8) : EReal :=
  ∑ c : Fin 64, (if slot K st c = ((p.val : ℕ) : EReal) then (if selected K st c then ((c.val : ℕ) : EReal) else 0) else 0)

/-! ## The reference's row -/

/-- The eight gathered scores, replaced by zeros where every one is minus infinity. -/
def shown (v : Fin 8 → EReal) (q : Fin 8) : EReal := if (∀ q, v q = ⊥) then 0 else v q

/-- The exponential of a gathered score less the largest. -/
def expo (v : Fin 8 → EReal) (q : Fin 8) : EReal := Ideal.exp (shown v q - Finset.univ.sup (shown v))

/-- The softmax of the eight gathered scores; zeros where every one is minus infinity. -/
def refW (v : Fin 8 → EReal) (p : Fin 8) : EReal := if (∀ q, v q = ⊥) then 0 else Ideal.div (expo v p) (∑ q, expo v q)

/-- A sum of reals read as extended reals. -/
theorem coe_sum {ι : Type} (s : Finset ι) (r : ι → ℝ) : ∑ q ∈ s, (r q : EReal) = ((∑ q ∈ s, r q : ℝ) : EReal) := by
  induction s using Finset.induction_on with
  | empty => simp
  | insert a s ha ih => rw [Finset.sum_insert ha, Finset.sum_insert ha, ih, EReal.coe_add]

/-! ## Slots -/

variable {K T : EReal} {st : Fin 64 → EReal} {τ : Fin 8 → Fin 64} {S : Fin 8 → Prop}

/-- A sum over the column of a term that vanishes off the range of an injective listing is a sum over the listing. -/
theorem sum_listing (hτ : Function.Injective τ) (g : Fin 64 → EReal) (hg : ∀ c, (∀ q, τ q ≠ c) → g c = 0) :
    ∑ c, g c = ∑ q, g (τ q) :=
  (Fintype.sum_of_injective τ hτ (fun q => g (τ q)) g (fun c hc => hg c fun q hq => hc ⟨q, hq⟩) fun _ => rfl).symm

/-- The selected entries are those an increasing listing `τ` names at a set `S` of slots closed downwards. -/
structure Slots (K : EReal) (st : Fin 64 → EReal) (τ : Fin 8 → Fin 64) (S : Fin 8 → Prop) : Prop where
  mono : StrictMono τ
  sel : ∀ c, selected K st c ↔ ∃ q, τ q = c ∧ S q
  initial : ∀ q p, q < p → S p → S q

theorem Slots.sel_listed (h : Slots K st τ S) (q : Fin 8) : selected K st (τ q) ↔ S q := by
  rw [h.sel]
  exact ⟨fun ⟨q', hq, hS⟩ => h.mono.injective hq ▸ hS, fun hS => ⟨q, rfl, hS⟩⟩

/-- A selected entry's slot is its place in the listing. -/
theorem Slots.slot_listed (h : Slots K st τ S) (p : Fin 8) (hp : S p) : slot K st (τ p) = ((p.val : ℕ) : EReal) := by
  unfold slot
  rw [sum_listing h.mono.injective _ (fun c hc => by
    rw [if_neg (fun hs => (let ⟨q, hq, _⟩ := (h.sel c).1 hs; hc q hq) : ¬ selected K st c), mul_zero])]
  have : ∀ q : Fin 8, (if τ q < τ p then (1 : EReal) else 0) * (if selected K st (τ q) then 1 else 0)
      = (((if q < p then 1 else 0 : ℕ)) : EReal) := by
    intro q
    by_cases hq : q < p
    · rw [if_pos (h.mono hq), if_pos ((h.sel_listed q).2 (h.initial q p hq hp)), if_pos hq]; simp
    · rw [if_neg (fun hlt => hq (h.mono.lt_iff_lt.1 hlt)), if_neg hq]; simp
  rw [Finset.sum_congr rfl fun q _ => this q, ← Nat.cast_sum]
  congr 1
  clear this hp
  revert p; decide

/-- What lands in slot `p` of a quantity that vanishes off the selected entries: its value at the entry listed there. -/
theorem Slots.pick (h : Slots K st τ S) (f : Fin 64 → EReal) (hf : ∀ c, ¬ selected K st c → f c = 0) (p : Fin 8) :
    ∑ c, (if slot K st c = ((p.val : ℕ) : EReal) then f c else 0) = f (τ p) := by
  rw [sum_listing h.mono.injective _ (fun c hc => by
    rw [hf c (fun hs => (let ⟨q, hq, _⟩ := (h.sel c).1 hs; hc q hq)), ite_self])]
  rw [Finset.sum_eq_single p]
  · by_cases hp : S p
    · rw [if_pos (h.slot_listed p hp)]
    · rw [hf _ (fun hs => hp ((h.sel_listed p).1 hs)), ite_self]
  · intro q _ hqp
    by_cases hq : S q
    · rw [h.slot_listed q hq, if_neg]
      intro he
      exact hqp (Fin.ext (EReal.natCast_eq_iff.1 he))
    · rw [hf _ (fun hs => hq ((h.sel_listed q).1 hs)), ite_self]
  · intro hp; exact absurd (Finset.mem_univ p) hp

/-! ## The two agreements -/

/-- THE INDEX IN SLOT `p` is the `p`-th smallest selected entry, when eight are selected. -/
theorem outI_eq (h : Slots K st τ fun _ => True) (p : Fin 8) : outI K st p = (((τ p).val : ℕ) : EReal) := by
  unfold outI
  rw [h.pick (fun c => if selected K st c then ((c.val : ℕ) : EReal) else 0) (fun c hc => if_neg hc) p]
  exact if_pos ((h.sel_listed p).2 trivial)

/-- THE WEIGHT IN SLOT `p` is the softmax of the gathered scores: `v` are the scores at the listed entries, minus infinity
    where the entry is not selected, and their largest is the column's largest. -/
theorem outW_eq (h : Slots K st τ S) (v : Fin 8 → EReal) (hv : ∀ q, S q → st (τ q) = v q) (hbot : ∀ q, ¬ S q → v q = ⊥)
    (hbelow : ∀ q, v q < ⊤) (p0 : Fin 8) (hp0 : ⊥ < v p0) (htop : top st = v p0) (hmax : ∀ q, v q ≤ v p0) (hT : T ≤ v p0)
    (p : Fin 8) : outW K T st p = refW v p := by
  have hnotinf : ¬ ∀ q, v q = ⊥ := fun hall => absurd (hall p0) hp0.ne'
  have hshown : shown v = v := by funext q; unfold shown; rw [if_neg hnotinf]
  have hsup : Finset.univ.sup v = v p0 :=
    le_antisymm (Finset.sup_le fun q _ => hmax q) (Finset.le_sup (Finset.mem_univ p0))
  have hnT : ¬ top st < T := by rw [htop]; exact not_lt.2 hT
  have hshift : shift T st = v p0 := by unfold shift; rw [if_neg hnT, htop]
  obtain ⟨x, hx⟩ : ∃ x : ℝ, v p0 = (x : EReal) := ⟨(v p0).toReal, (EReal.coe_toReal (hbelow p0).ne hp0.ne').symm⟩
  have hexpo : ∀ q, expo v q = Ideal.exp (v q - v p0) := fun q => by unfold expo; rw [hshown, hsup]
  have hreal : ∀ q, ∃ r : ℝ, 0 ≤ r ∧ expo v q = (r : EReal) := by
    intro q
    rw [hexpo, hx]
    rcases eq_or_ne (v q) ⊥ with hq | hq
    · exact ⟨0, le_rfl, by rw [hq, EReal.bot_sub]; rfl⟩
    · obtain ⟨y, hy⟩ : ∃ y : ℝ, v q = (y : EReal) := ⟨(v q).toReal, (EReal.coe_toReal (hbelow q).ne hq).symm⟩
      exact ⟨Real.exp (y - x), (Real.exp_pos _).le, by rw [hy, ← EReal.coe_sub]; rfl⟩
  choose r hr0 hr using hreal
  have hr1 : r p0 = 1 := by
    have h1 := hr p0
    rw [hexpo, hx, ← EReal.coe_sub, sub_self, Ideal.exp_coe, Real.exp_zero] at h1
    exact (EReal.coe_eq_coe_iff.1 h1).symm
  have hpos : 0 < ∑ q, r q :=
    lt_of_lt_of_le (by rw [hr1]; exact one_pos) (Finset.single_le_sum (fun q _ => hr0 q) (Finset.mem_univ p0))
  have hsum : ∑ q, expo v q = ((∑ q, r q : ℝ) : EReal) := by
    rw [Finset.sum_congr rfl fun q _ => hr q, coe_sum]
  have hnum : ∀ q, num K T st (τ q) = expo v q := by
    intro q
    unfold num
    rw [hexpo, hshift]
    by_cases hq : S q
    · rw [if_pos ((h.sel_listed q).2 hq), hv q hq]
    · rw [if_neg (fun hs => hq ((h.sel_listed q).1 hs)), hbot q hq, hx, EReal.bot_sub]; rfl
  have hnum0 : ∀ c, ¬ selected K st c → num K T st c = 0 := fun c hc => if_neg hc
  have hden : denom K T st = ((∑ q, r q : ℝ) : EReal) := by
    unfold denom
    rw [if_neg hnT, add_zero, ← hsum, sum_listing h.mono.injective _ (fun c hc =>
      hnum0 c (fun hs => (let ⟨q, hq, _⟩ := (h.sel c).1 hs; hc q hq)))]
    exact Finset.sum_congr rfl fun q _ => hnum q
  have hw0 : ∀ c, ¬ selected K st c → weight K T st c = 0 := by
    intro c hc
    unfold weight
    rw [hnum0 c hc, hden, Ideal.div_coe hpos.ne', zero_mul]
  have hwp : ∀ q, weight K T st (τ q) = ((r q * (1 / ∑ q, r q) : ℝ) : EReal) := by
    intro q
    unfold weight
    rw [hnum, hr, hden, Ideal.div_coe hpos.ne', ← EReal.coe_mul]
  unfold outW
  rw [h.pick _ hw0 p, h.pick (fun c => weight K T st c - weight K T st c) (fun c hc => by simp [hw0 c hc]) p]
  unfold refW
  rw [if_neg hnotinf, hsum, hr p, Ideal.div_coe hpos.ne', ← EReal.coe_mul]
  show weight K T st (τ p) + (weight K T st (τ p) - weight K T st (τ p)) = _
  rw [hwp p, ← EReal.coe_sub, sub_self, EReal.coe_zero, add_zero]

/-- Where every entry of the column is minus infinity, every weight is zero. -/
theorem outW_bot (hT : ⊥ < T) (h : ∀ c, st c = ⊥) (p : Fin 8) : outW K T st p = 0 := by
  have htop : top st = ⊥ := le_bot_iff.1 (Finset.sup_le fun c _ => (h c).le)
  have hnum : ∀ c, num K T st c = 0 := by
    intro c
    unfold num
    split
    · rw [h c, EReal.bot_sub]; rfl
    · rfl
  have hw : ∀ c, weight K T st c = 0 := by
    intro c
    unfold weight denom
    rw [hnum c, if_pos (by rw [htop]; exact hT), Finset.sum_congr rfl fun c _ => hnum c, Finset.sum_const_zero, zero_add,
      show (1 : EReal) = ((1 : ℝ) : EReal) from rfl, Ideal.div_coe one_ne_zero, zero_mul]
  unfold outW
  simp [hw]

/-- Where every gathered score is minus infinity, the reference's weights are zero. -/
theorem refW_bot {v : Fin 8 → EReal} (h : ∀ q, v q = ⊥) (p : Fin 8) : refW v p = 0 := if_pos h

end Cert.Proof

end
-- ==== Proof.Column.lean ====
/- The kernel's column work read at an entry: the rounds of striking out, the weights and the slots, as the functions of
   a column stated beside the row's mathematics. -/
module

public import proofs.«01_k».proof.Proof.Row
public import proofs.«01_k».proof.Proof.Gen.KernelIdeal.Skeleton
public import Idealize.ShloMosaic.Lib.Pointwise
public import Idealize.ShloMosaic.Lib.WordCmp

@[expose] public section

set_option maxRecDepth 16384

noncomputable section

open Idealize.ShloMosaic
open scoped Classical

namespace Cert.Proof.Column

open Cert.KernelIdeal Cert.KernelIdeal.Gen

/-- The value struck entries are replaced by: the word of −3e38. -/
abbrev K : EReal := Ideal.ofBits .f32 0xFF61B1E6#32
/-- The bound below which a column has no visible score: the word of −1e29. -/
abbrev T : EReal := Ideal.ofBits .f32 0xEFA18F08#32

/-- Column `l` of a block of scores. -/
abbrev col (x : FVec Ideal S64x1024 .f32) (l : Fin 1024) (c : Fin 64) : EReal := x (ix2 c l)

/-- The word the running maximum starts from is minus infinity. -/
theorem ofBits_bot : Ideal.ofBits .f32 0xFF800000#32 = ⊥ := by
  simp [Ideal.ofBits, Ideal.ieee]

/-- A running maximum from minus infinity is the largest entry. -/
theorem fold_max (w : Fin 64 → EReal) : Finset.univ.fold max (Ideal.ofBits .f32 0xFF800000#32) w = top w := by
  rw [ofBits_bot]; rfl

/-- The largest entry of each column, as one row. -/
def topRow (x : FVec Ideal S64x1024 .f32) : FVec Ideal S1x1024 .f32 :=
  shapeCast S1x1024 (multiReduction .maximumf [0] S1024 x 0xFF800000#32 reduces_S64x1024_S1024 (.inl rfl) rfl)
    shapeCasts_S1024_S1x1024

theorem topRow_apply (x : FVec Ideal S64x1024 .f32) (l : Fin 1024) : topRow x (ix2 0 l) = top (col x l) := by
  rw [← fold_max]
  unfold topRow
  pointwise

/-- One round over the whole block. -/
def strikeAll (x : FVec Ideal S64x1024 .f32) : FVec Ideal S64x1024 .f32 :=
  select (cmpf .oeq x (broadcastTo S64x1024 (topRow x) broadcasts_S1x1024_S64x1024))
    (broadcast S64x1024 (Scalar.ofBits (F := Ideal) .f32 0xFF61B1E6#32)) x

theorem strikeAll_col (x : FVec Ideal S64x1024 .f32) (l : Fin 1024) : col (strikeAll x) l = strike K (col x l) := by
  funext c
  have h := topRow_apply x l
  show strikeAll x (ix2 c l) = if x (ix2 c l) = top (col x l) then K else x (ix2 c l)
  rw [← h]
  unfold strikeAll
  pointwise

theorem strikeAll_iterate (n : ℕ) (x : FVec Ideal S64x1024 .f32) (l : Fin 1024) :
    col (strikeAll^[n] x) l = (strike K)^[n] (col x l) := by
  induction n with
  | zero => rfl
  | succ n ih => rw [Function.iterate_succ_apply', Function.iterate_succ_apply', strikeAll_col, ih]

theorem strikeAll_def (x : FVec Ideal S64x1024 .f32) (h1 h2 h3 h4 h5) :
    select (cmpf .oeq x (broadcastTo S64x1024 (shapeCast S1x1024
      (multiReduction .maximumf [0] S1024 x 0xFF800000#32 h1 h2 h3) h4) h5))
      (broadcast S64x1024 (Scalar.ofBits (F := Ideal) .f32 0xFF61B1E6#32)) x = strikeAll x := rfl

/-- The selection mask after all eight rounds. -/
theorem pay10_eq (st : FVec Ideal S64x1024 .f32) :
    k0_pay10 st (strikeAll^[3] st) = cmpf .one (strikeAll^[8] st) st := by
  rw [show (8 : ℕ) = 5 + 3 from rfl, Function.iterate_add_apply]
  generalize strikeAll^[3] st = w
  rfl

theorem cmpf_one_apply (x y : FVec Ideal S64x1024 .f32) (j : S64x1024.Idx) :
    cmpf .one x y j = BitVec.ofBool (decide (x j ≠ y j)) := rfl

theorem pay10_apply (st : FVec Ideal S64x1024 .f32) (c : Fin 64) (l : Fin 1024) :
    k0_pay10 st (strikeAll^[3] st) (ix2 c l) = BitVec.ofBool (decide (selected K (col st l) c)) := by
  have h : (strikeAll^[8] st) (ix2 c l) = (strike K)^[8] (col st l) c := congrFun (strikeAll_iterate 8 st l) c
  rw [pay10_eq, cmpf_one_apply, h]
  exact congrArg BitVec.ofBool (decide_eq_decide.2 Iff.rfl)

theorem pay8_eq (a : BitVec 32) (x : FVec Ideal S1024x256 .f32) (y : FVec Ideal S64x256 .f32) (z : FVec Ideal S64x1 .f32)
    (w : FVec Ideal S1x256 .f32) : k0_pay8 a x y z w = topRow (k0_pay7 a x y z w) := by
  unfold k0_pay8
  generalize k0_pay7 a x y z w = st
  rfl

theorem pay9_eq (a : BitVec 32) (x : FVec Ideal S1024x256 .f32) (y : FVec Ideal S64x256 .f32) (z : FVec Ideal S64x1 .f32)
    (w : FVec Ideal S1x256 .f32) : k0_pay9 a x y z w = strikeAll^[3] (k0_pay7 a x y z w) := by
  unfold k0_pay9 k0_pay8
  generalize k0_pay7 a x y z w = st
  rfl

/-- A selection by the mask. -/
theorem ofBool_eq_one (p : Prop) [Decidable p] : (BitVec.ofBool (decide p) = 1#1) ↔ p := by
  by_cases h : p <;> simp [h]

/-- The number a selection bit is converted to. -/
theorem bit_value (b : Prop) [Decidable b] :
    (FloatOps.sitofp .f32 (BitVec.setWidth 32 (BitVec.ofBool (decide b))) : Ideal .f32) = if b then (1 : EReal) else 0 := by
  show ((((BitVec.setWidth 32 (BitVec.ofBool (decide b))).toInt : ℝ)) : EReal) = _
  by_cases h : b <;> simp [h]

theorem select_bit {α : Type} (b : Prop) [Decidable b] (x y : α) :
    Scalar.select (BitVec.ofBool (decide b)) x y = if b then x else y := by
  by_cases h : b <;> simp [h, Scalar.select]

/-- The weights of the block. -/
theorem pay11_apply (st : FVec Ideal S64x1024 .f32) (c : Fin 64) (l : Fin 1024) :
    k0_pay11 st (topRow st) (strikeAll^[3] st) (ix2 c l) = weight K T (col st l) c := by
  have h1 := topRow_apply st l
  have h2 := fun c => pay10_apply st c l
  unfold k0_pay11
  pointwise
  simp only [h2, h1, select_bit, bit_value]
  rfl

/-- The slots of the block. -/
theorem pay12_apply (st : FVec Ideal S64x1024 .f32) (c : Fin 64) (l : Fin 1024) :
    k0_pay12 (F := Ideal) (k0_pay10 st (strikeAll^[3] st)) (ix2 c l) = slot K (col st l) c := by
  have h2 := fun c => pay10_apply st c l
  unfold k0_pay12
  pointwise
  simp only [h2]
  refine Finset.sum_congr rfl fun x _ => ?_
  rw [bit_value, WordCmp.cmpi_slt_ofNat (by have := x.isLt; omega) (by have := c.isLt; omega), bit_value]
  congr 1

end Cert.Proof.Column
-- ==== Proof.Pick.lean ====
/- The kernel's gathering of the slots read at an entry: the stacked pieces times the matrix of zeros and ones that picks
   a slot per column of the result. -/
module

public import proofs.«01_k».proof.Proof.Column
public import Idealize.ShloMosaic.Lib.Pipeline.Value

@[expose] public section

set_option maxRecDepth 16384

noncomputable section

open Idealize.ShloMosaic
open scoped Classical

namespace Cert.Proof.Column

open Cert.KernelIdeal Cert.KernelIdeal.Gen

/-! ## The matrices of zeros and ones -/

/-- The divisor's word, as the kernel writes it. -/
abbrev eightWord : BitVec 32 := Scalar.select (Scalar.cmpi .eq 8#32 0#32) 1#32 8#32

/-- The quotient by 64, rounded down, as the kernel writes it. -/
def quotWord (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

/-- The remainder by 8, not negative, as the kernel writes it. -/
def remWord (x : BitVec 32) : BitVec 32 :=
  Scalar.select
    (IntOp.andi
      (IntOp.xori (IntOp.cmpi .slt (IntOp.remsi .vector x eightWord) 0#32) (Scalar.cmpi .slt eightWord 0#32))
      (IntOp.cmpi .ne (IntOp.remsi .vector x eightWord) 0#32))
    (IntOp.addi (IntOp.remsi .vector x eightWord) eightWord)
    (IntOp.remsi .vector x eightWord)

theorem quotWord_eq : ∀ k : Fin 1024, quotWord (BitVec.ofNat 32 k.val) = BitVec.ofNat 32 (k.val / 64) := by
  decide +kernel

theorem remWord_eq : ∀ k : Fin 32, remWord (BitVec.ofNat 32 k.val) = BitVec.ofNat 32 (k.val % 8) := by
  decide +kernel

/-- The picking matrix of the weights: one where the row's piece, modulo eight, is the column's slot. -/
theorem pick_apply (k : Fin 1024) (j : Fin 32) :
    k0_pay49 (F := Ideal) (Scalar.select (Scalar.cmpi .eq 8#32 0#32) 1#32 8#32) k0_pay47 k0_pay48 (ix2 k j)
      = if k.val / 64 % 8 = j.val % 8 then 1 else 0 := by
  unfold k0_pay49 k0_pay48 k0_pay47
  pointwise
  show FloatOps.sitofp .f32 (BitVec.setWidth 32 (IntOp.cmpi .eq
    (remWord (quotWord (BitVec.ofNat 32 k.val))) (remWord (BitVec.ofNat 32 j.val)))) = _
  have h := remWord_eq ⟨k.val / 64, by omega⟩
  rw [quotWord_eq, h, remWord_eq, WordCmp.cmpi_eq_ofNat (by dsimp only; omega) (by omega), bit_value]

/-- The picking matrix of the indices, with its product: one where the row's piece is the column's slot. -/
theorem pay2_apply (x : FVec Ideal S512x1024 .bf16) (l : Fin 1024) (j : Fin 32) :
    k0_pay2 (F := Ideal) x k0_pay50 k0_pay51 k0_pay52 (ix3 0 l j)
      = Ideal.fptosi 32 (∑ k : Fin 512, x (ix2 k l) * (if k.val / 64 = j.val % 8 then (1 : EReal) else 0)) := by
  unfold k0_pay2 k0_pay50 k0_pay51 k0_pay52
  pointwise
  show Ideal.fptosi 32 (∑ k : Fin 512, x (ix2 k l) * (FloatOps.sitofp .f32 (BitVec.setWidth 32 (IntOp.cmpi .eq
    (quotWord (BitVec.ofNat 32 k.val)) (remWord (BitVec.ofNat 32 j.val)))) : Ideal .f32)) = _
  congr 1
  refine Finset.sum_congr rfl fun k _ => ?_
  have h := quotWord_eq ⟨k.val, by omega⟩
  dsimp only at h
  rw [h, remWord_eq, WordCmp.cmpi_eq_ofNat (by omega) (by omega), bit_value]

theorem pay1_apply (x : FVec Ideal S1024x1024 .bf16) (y : FVec Ideal S1024x32 .bf16) (l : Fin 1024) (j : Fin 32) :
    k0_pay1 x y (ix3 0 l j) = (∑ k : Fin 1024, x (ix2 k l) * y (ix2 k j) : EReal) := by
  unfold k0_pay1
  pointwise

/-! ## The stacked pieces -/

theorem concat16 (f : Fin 16 → FVec Ideal S64x1024 .bf16) (h) (q : Fin 16) (c : Fin 64) (l : Fin 1024) :
    concatenate S1024x1024 0 [⟨S64x1024, f 0⟩, ⟨S64x1024, f 1⟩, ⟨S64x1024, f 2⟩, ⟨S64x1024, f 3⟩, ⟨S64x1024, f 4⟩,
      ⟨S64x1024, f 5⟩, ⟨S64x1024, f 6⟩, ⟨S64x1024, f 7⟩, ⟨S64x1024, f 8⟩, ⟨S64x1024, f 9⟩, ⟨S64x1024, f 10⟩,
      ⟨S64x1024, f 11⟩, ⟨S64x1024, f 12⟩, ⟨S64x1024, f 13⟩, ⟨S64x1024, f 14⟩, ⟨S64x1024, f 15⟩] h
      (ix2 ⟨c.val + 64 * q.val, by omega⟩ l) = f q (ix2 c l) := by
  refine concatenate_ofFn_apply (t := S1024x1024) (s₁ := S64x1024) 0 f h rfl 64 rfl _ q ?_ (ix2 c l) ?_ ?_
  · show (c.val + 64 * q.val) / 64 = q.val
    omega
  · show c.val = (c.val + 64 * q.val) % 64
    omega
  · intro b hb
    match b with
    | 0 => exact absurd rfl hb
    | 1 => rfl

theorem concat8 (f : Fin 8 → FVec Ideal S64x1024 .bf16) (h) (q : Fin 8) (c : Fin 64) (l : Fin 1024) :
    concatenate S512x1024 0 [⟨S64x1024, f 0⟩, ⟨S64x1024, f 1⟩, ⟨S64x1024, f 2⟩, ⟨S64x1024, f 3⟩, ⟨S64x1024, f 4⟩,
      ⟨S64x1024, f 5⟩, ⟨S64x1024, f 6⟩, ⟨S64x1024, f 7⟩] h
      (ix2 ⟨c.val + 64 * q.val, by omega⟩ l) = f q (ix2 c l) := by
  refine concatenate_ofFn_apply (t := S512x1024) (s₁ := S64x1024) 0 f h rfl 64 rfl _ q ?_ (ix2 c l) ?_ ?_
  · show (c.val + 64 * q.val) / 64 = q.val
    omega
  · show c.val = (c.val + 64 * q.val) % 64
    omega
  · intro b hb
    match b with
    | 0 => exact absurd rfl hb
    | 1 => rfl

theorem concatTwice (g g' : Fin 8 → FVec Ideal S64x1024 .bf16) (h) (q : Fin 8) (c : Fin 64) (l : Fin 1024) :
    let E := concatenate S1024x1024 0 [⟨S64x1024, g 0⟩, ⟨S64x1024, g 1⟩, ⟨S64x1024, g 2⟩, ⟨S64x1024, g 3⟩, ⟨S64x1024, g 4⟩,
      ⟨S64x1024, g 5⟩, ⟨S64x1024, g 6⟩, ⟨S64x1024, g 7⟩, ⟨S64x1024, g' 0⟩, ⟨S64x1024, g' 1⟩, ⟨S64x1024, g' 2⟩,
      ⟨S64x1024, g' 3⟩, ⟨S64x1024, g' 4⟩, ⟨S64x1024, g' 5⟩, ⟨S64x1024, g' 6⟩, ⟨S64x1024, g' 7⟩] h
    E (ix2 ⟨c.val + 64 * q.val, by omega⟩ l) = g q (ix2 c l) ∧
      E (ix2 ⟨c.val + 64 * (8 + q.val), by omega⟩ l) = g' q (ix2 c l) := by
  intro E
  let f : Fin 16 → FVec Ideal S64x1024 .bf16 := fun p =>
    if h : p.val < 8 then g ⟨p.val, h⟩ else g' ⟨p.val - 8, by omega⟩
  have hE : ∀ p : Fin 16, E (ix2 ⟨c.val + 64 * p.val, by omega⟩ l) = f p (ix2 c l) := fun p => concat16 f h p c l
  have h1 : f ⟨q.val, by omega⟩ = g q := dif_pos q.isLt
  have h2 : f ⟨8 + q.val, by omega⟩ = g' q := (dif_neg (by simp)).trans (congrArg g' (Fin.ext (by simp)))
  exact ⟨(hE ⟨q.val, by omega⟩).trans (by rw [h1]), (hE ⟨8 + q.val, by omega⟩).trans (by rw [h2])⟩

/-- A sum over stacked pieces, piece by piece. -/
theorem sum_tiles (N M : ℕ) (h : N * 64 = M) (g : Fin M → EReal) :
    ∑ k, g k = ∑ q : Fin N, ∑ c : Fin 64, g ⟨c.val + 64 * q.val, by have := q.isLt; omega⟩ := by
  subst h
  rw [← finProdFinEquiv.sum_comp, Fintype.sum_prod_type]
  rfl

/-- The entries of `x` that lie in slot `p`, zero elsewhere. -/
def hitPiece (w : BitVec 32) (sl : FVec Ideal S64x1024 .f32) (x : FVec Ideal S64x1024 .bf16) : FVec Ideal S64x1024 .bf16 :=
  select (cmpf .oeq sl (broadcast S64x1024 (Scalar.ofBits (F := Ideal) .f32 w))) x (k0_pay16 (F := Ideal))

/-- The slot numbers' words. -/
def slotWord : Fin 8 → BitVec 32 :=
  ![0x00000000#32, 0x3F800000#32, 0x40000000#32, 0x40400000#32, 0x40800000#32, 0x40A00000#32, 0x40C00000#32, 0x40E00000#32]

theorem slotWord_value (p : Fin 8) : Ideal.ofBits .f32 (slotWord p) = ((p.val : ℕ) : EReal) := by
  rw [← EReal.coe_natCast]
  fin_cases p <;> simp [slotWord, Ideal.ofBits, Ideal.ieee, -EReal.coe_mul] <;> norm_num <;> rfl

theorem hitPiece_apply (p : Fin 8) (sl : FVec Ideal S64x1024 .f32) (x : FVec Ideal S64x1024 .bf16) (c : Fin 64) (l : Fin 1024) :
    hitPiece (slotWord p) sl x (ix2 c l) = if sl (ix2 c l) = ((p.val : ℕ) : EReal) then x (ix2 c l) else 0 := by
  rw [← slotWord_value]
  unfold hitPiece k0_pay16
  pointwise

/-! ## The block's two results -/

theorem pay18_eq (sel : IVec S64x1024 1) (w : FVec Ideal S64x1024 .f32) :
    k0_pay18 sel w = hitPiece (slotWord 0) (k0_pay12 sel) (k0_pay13 w) := rfl
theorem pay19_eq (sel : IVec S64x1024 1) (w : FVec Ideal S64x1024 .f32) :
    k0_pay19 sel w = hitPiece (slotWord 0) (k0_pay12 sel) (k0_pay14 w) := rfl
theorem pay20_eq (sel : IVec S64x1024 1) (v : FVec Ideal S64x1024 .f32) :
    k0_pay20 v sel = hitPiece (slotWord 0) (k0_pay12 sel) (k0_pay15 v sel) := rfl
theorem pay22_eq (sel : IVec S64x1024 1) (w : FVec Ideal S64x1024 .f32) :
    k0_pay22 sel w = hitPiece (slotWord 1) (k0_pay12 sel) (k0_pay13 w) := rfl
theorem pay23_eq (sel : IVec S64x1024 1) (w : FVec Ideal S64x1024 .f32) :
    k0_pay23 sel w = hitPiece (slotWord 1) (k0_pay12 sel) (k0_pay14 w) := rfl
theorem pay24_eq (sel : IVec S64x1024 1) (v : FVec Ideal S64x1024 .f32) :
    k0_pay24 v sel = hitPiece (slotWord 1) (k0_pay12 sel) (k0_pay15 v sel) := rfl
theorem pay26_eq (sel : IVec S64x1024 1) (w : FVec Ideal S64x1024 .f32) :
    k0_pay26 sel w = hitPiece (slotWord 2) (k0_pay12 sel) (k0_pay13 w) := rfl
theorem pay27_eq (sel : IVec S64x1024 1) (w : FVec Ideal S64x1024 .f32) :
    k0_pay27 sel w = hitPiece (slotWord 2) (k0_pay12 sel) (k0_pay14 w) := rfl
theorem pay28_eq (sel : IVec S64x1024 1) (v : FVec Ideal S64x1024 .f32) :
    k0_pay28 v sel = hitPiece (slotWord 2) (k0_pay12 sel) (k0_pay15 v sel) := rfl
theorem pay30_eq (sel : IVec S64x1024 1) (w : FVec Ideal S64x1024 .f32) :
    k0_pay30 sel w = hitPiece (slotWord 3) (k0_pay12 sel) (k0_pay13 w) := rfl
theorem pay31_eq (sel : IVec S64x1024 1) (w : FVec Ideal S64x1024 .f32) :
    k0_pay31 sel w = hitPiece (slotWord 3) (k0_pay12 sel) (k0_pay14 w) := rfl
theorem pay32_eq (sel : IVec S64x1024 1) (v : FVec Ideal S64x1024 .f32) :
    k0_pay32 v sel = hitPiece (slotWord 3) (k0_pay12 sel) (k0_pay15 v sel) := rfl
theorem pay34_eq (sel : IVec S64x1024 1) (w : FVec Ideal S64x1024 .f32) :
    k0_pay34 sel w = hitPiece (slotWord 4) (k0_pay12 sel) (k0_pay13 w) := rfl
theorem pay35_eq (sel : IVec S64x1024 1) (w : FVec Ideal S64x1024 .f32) :
    k0_pay35 sel w = hitPiece (slotWord 4) (k0_pay12 sel) (k0_pay14 w) := rfl
theorem pay36_eq (sel : IVec S64x1024 1) (v : FVec Ideal S64x1024 .f32) :
    k0_pay36 v sel = hitPiece (slotWord 4) (k0_pay12 sel) (k0_pay15 v sel) := rfl
theorem pay38_eq (sel : IVec S64x1024 1) (w : FVec Ideal S64x1024 .f32) :
    k0_pay38 sel w = hitPiece (slotWord 5) (k0_pay12 sel) (k0_pay13 w) := rfl
theorem pay39_eq (sel : IVec S64x1024 1) (w : FVec Ideal S64x1024 .f32) :
    k0_pay39 sel w = hitPiece (slotWord 5) (k0_pay12 sel) (k0_pay14 w) := rfl
theorem pay40_eq (sel : IVec S64x1024 1) (v : FVec Ideal S64x1024 .f32) :
    k0_pay40 v sel = hitPiece (slotWord 5) (k0_pay12 sel) (k0_pay15 v sel) := rfl
theorem pay42_eq (sel : IVec S64x1024 1) (w : FVec Ideal S64x1024 .f32) :
    k0_pay42 sel w = hitPiece (slotWord 6) (k0_pay12 sel) (k0_pay13 w) := rfl
theorem pay43_eq (sel : IVec S64x1024 1) (w : FVec Ideal S64x1024 .f32) :
    k0_pay43 sel w = hitPiece (slotWord 6) (k0_pay12 sel) (k0_pay14 w) := rfl
theorem pay44_eq (sl : FVec Ideal S64x1024 .f32) (x : FVec Ideal S64x1024 .bf16) :
    select (k0_pay44 sl) x (k0_pay16 (F := Ideal)) = hitPiece (slotWord 7) sl x := rfl
theorem pay41_eq (sel : IVec S64x1024 1) (x : FVec Ideal S64x1024 .bf16) :
    select (k0_pay41 (F := Ideal) sel) x (k0_pay16 (F := Ideal)) = hitPiece (slotWord 6) (k0_pay12 sel) x := rfl

/-- The weights' stacked pieces: the weights by slot, then what cutting each weight in two left over, by slot. -/
theorem pay45_apply (sel : IVec S64x1024 1) (w : FVec Ideal S64x1024 .f32) (q : Fin 8) (c : Fin 64) (l : Fin 1024) :
    let E := k0_pay45 (F := Ideal) (k0_pay12 sel) (k0_pay13 w) (k0_pay14 w) k0_pay16 (k0_pay18 sel w) (k0_pay19 sel w)
      (k0_pay22 sel w) (k0_pay23 sel w) (k0_pay26 sel w) (k0_pay27 sel w) (k0_pay30 sel w) (k0_pay31 sel w)
      (k0_pay34 sel w) (k0_pay35 sel w) (k0_pay38 sel w) (k0_pay39 sel w) (k0_pay42 sel w) (k0_pay43 sel w)
    E (ix2 ⟨c.val + 64 * q.val, by omega⟩ l)
        = (if k0_pay12 (F := Ideal) sel (ix2 c l) = ((q.val : ℕ) : EReal) then w (ix2 c l) else 0) ∧
      E (ix2 ⟨c.val + 64 * (8 + q.val), by omega⟩ l)
        = (if k0_pay12 (F := Ideal) sel (ix2 c l) = ((q.val : ℕ) : EReal) then w (ix2 c l) - w (ix2 c l) else 0) := by
  rw [pay18_eq, pay19_eq, pay22_eq, pay23_eq, pay26_eq, pay27_eq, pay30_eq, pay31_eq, pay34_eq, pay35_eq, pay38_eq,
    pay39_eq, pay42_eq, pay43_eq]
  unfold k0_pay45
  rw [pay44_eq, pay44_eq]
  have hhi : k0_pay13 w (ix2 c l) = w (ix2 c l) := rfl
  have hlo : k0_pay14 w (ix2 c l) = w (ix2 c l) - w (ix2 c l) := rfl
  rw [← hlo, ← hhi, ← hitPiece_apply, ← hitPiece_apply]
  generalize k0_pay12 (F := Ideal) sel = sl
  generalize k0_pay13 w = hi
  generalize k0_pay14 w = lo
  exact concatTwice (fun p => hitPiece (slotWord p) sl hi) (fun p => hitPiece (slotWord p) sl lo) _ q c l

/-- The indices' stacked pieces: the entries' numbers by slot. -/
theorem pay46_apply (sel : IVec S64x1024 1) (v : FVec Ideal S64x1024 .f32) (q : Fin 8) (c : Fin 64) (l : Fin 1024) :
    k0_pay46 (F := Ideal) (k0_pay12 sel) (k0_pay15 v sel) k0_pay16 (k0_pay20 v sel) (k0_pay24 v sel)
      (k0_pay28 v sel) (k0_pay32 v sel) (k0_pay36 v sel) (k0_pay40 v sel) (k0_pay41 (F := Ideal) sel)
      (ix2 ⟨c.val + 64 * q.val, by omega⟩ l)
        = (if k0_pay12 (F := Ideal) sel (ix2 c l) = ((q.val : ℕ) : EReal) then
            k0_pay15 (F := Ideal) v sel (ix2 c l) else 0) := by
  rw [pay20_eq, pay24_eq, pay28_eq, pay32_eq, pay36_eq, pay40_eq]
  unfold k0_pay46
  rw [pay41_eq, pay44_eq, ← hitPiece_apply]
  generalize k0_pay12 (F := Ideal) sel = sl
  generalize k0_pay15 v sel = x
  exact concat8 (fun p => hitPiece (slotWord p) sl x) _ q c l

/-- The number of a selected entry. -/
theorem pay15_apply (st : FVec Ideal S64x1024 .f32) (c : Fin 64) (l : Fin 1024) :
    k0_pay15 (F := Ideal) k0_pay6 (k0_pay10 st (strikeAll^[3] st)) (ix2 c l)
      = if selected K (col st l) c then ((c.val : ℕ) : EReal) else 0 := by
  have h2 := pay10_apply st c l
  unfold k0_pay15 k0_pay6
  pointwise
  rw [h2, select_bit]
  refine if_congr Iff.rfl ?_ rfl
  rw [← EReal.coe_natCast]
  show (((BitVec.ofNat 32 c.val).toInt : ℝ) : EReal) = _
  rw [BitVec.toInt_ofNat', Int.bmod_eq_of_le (by omega) (by omega)]
  simp

/-- A sum over the eight pieces of which only the one named survives. -/
theorem pick_one (g : Fin 8 → EReal) (f : Fin 8 → EReal) {n : ℕ} (h1 : ∀ q : Fin 8, q.val = n % 8 → f q = g q)
    (h0 : ∀ q : Fin 8, q.val ≠ n % 8 → f q = 0) : ∑ q, f q = g ⟨n % 8, Nat.mod_lt _ (by norm_num)⟩ := by
  rw [Finset.sum_eq_single (⟨n % 8, Nat.mod_lt _ (by norm_num)⟩ : Fin 8)]
  · exact h1 _ rfl
  · intro q _ hq
    exact h0 q fun h => hq (Fin.ext h)
  · intro h
    exact absurd (Finset.mem_univ _) h

/-- The block of weights at an entry. -/
theorem weights_apply (st : FVec Ideal S64x1024 .f32) (l : Fin 1024) (j : Fin 32) :
    let sel := k0_pay10 st (strikeAll^[3] st)
    let w := k0_pay11 st (topRow st) (strikeAll^[3] st)
    k0_pay1 (k0_pay45 (F := Ideal) (k0_pay12 sel) (k0_pay13 w) (k0_pay14 w) k0_pay16 (k0_pay18 sel w) (k0_pay19 sel w)
      (k0_pay22 sel w) (k0_pay23 sel w) (k0_pay26 sel w) (k0_pay27 sel w) (k0_pay30 sel w) (k0_pay31 sel w)
      (k0_pay34 sel w) (k0_pay35 sel w) (k0_pay38 sel w) (k0_pay39 sel w) (k0_pay42 sel w) (k0_pay43 sel w))
      (k0_pay49 (F := Ideal) (Scalar.select (Scalar.cmpi .eq 8#32 0#32) 1#32 8#32) k0_pay47 k0_pay48) (ix3 0 l j)
      = outW K T (col st l) ⟨j.val % 8, Nat.mod_lt _ (by norm_num)⟩ := by
  intro sel w
  have hE := fun q c => pay45_apply sel w q c l
  dsimp only at hE
  rw [pay1_apply, sum_tiles 16 1024 rfl, Fin.sum_univ_add (a := 8) (b := 8)]
  have hs : ∀ c, k0_pay12 (F := Ideal) sel (ix2 c l) = slot K (col st l) c := fun c => pay12_apply st c l
  have hw : ∀ c, w (ix2 c l) = weight K T (col st l) c := fun c => pay11_apply st c l
  have hp : ∀ (c : Fin 64) (q : Fin 8), (c.val + 64 * q.val) / 64 % 8 = q.val := by intro c q; omega
  have hp' : ∀ (c : Fin 64) (q : Fin 8), (c.val + 64 * (8 + q.val)) / 64 % 8 = q.val := by intro c q; omega
  unfold outW
  refine congrArg₂ (· + ·) ?_ ?_
  · refine pick_one (fun q => ∑ c, if slot K (col st l) c = ((q.val : ℕ) : EReal) then weight K T (col st l) c else 0) _ ?_ ?_
    · intro q hq
      refine Finset.sum_congr rfl fun c _ => ?_
      rw [pick_apply]
      refine (congrArg₂ (· * ·) (hE q c).1 (if_pos ((hp c q).trans hq))).trans ?_
      rw [mul_one, hs, hw]
    · intro q hq
      refine Finset.sum_eq_zero fun c _ => ?_
      rw [pick_apply]
      refine (congrArg₂ (· * ·) (hE q c).1 (if_neg fun h => hq ((hp c q).symm.trans h))).trans ?_
      exact mul_zero _
  · refine pick_one (fun q => ∑ c, if slot K (col st l) c = ((q.val : ℕ) : EReal) then
      weight K T (col st l) c - weight K T (col st l) c else 0) _ ?_ ?_
    · intro q hq
      refine Finset.sum_congr rfl fun c _ => ?_
      rw [pick_apply]
      refine (congrArg₂ (· * ·) (hE q c).2 (if_pos ((hp' c q).trans hq))).trans ?_
      rw [mul_one, hs, hw]
    · intro q hq
      refine Finset.sum_eq_zero fun c _ => ?_
      rw [pick_apply]
      refine (congrArg₂ (· * ·) (hE q c).2 (if_neg fun h => hq ((hp' c q).symm.trans h))).trans ?_
      exact mul_zero _

/-- The block of indices at an entry. -/
theorem indices_apply (st : FVec Ideal S64x1024 .f32) (l : Fin 1024) (j : Fin 32) :
    let sel := k0_pay10 st (strikeAll^[3] st)
    let v := k0_pay6 (F := Ideal)
    k0_pay2 (F := Ideal) (k0_pay46 (F := Ideal) (k0_pay12 sel) (k0_pay15 v sel) k0_pay16 (k0_pay20 v sel) (k0_pay24 v sel)
      (k0_pay28 v sel) (k0_pay32 v sel) (k0_pay36 v sel) (k0_pay40 v sel) (k0_pay41 (F := Ideal) sel))
      k0_pay50 k0_pay51 k0_pay52 (ix3 0 l j)
      = Ideal.fptosi 32 (outI K (col st l) ⟨j.val % 8, Nat.mod_lt _ (by norm_num)⟩) := by
  intro sel v
  have hE := fun q c => pay46_apply sel v q c l
  rw [pay2_apply, sum_tiles 8 512 rfl]
  have hs : ∀ c, k0_pay12 (F := Ideal) sel (ix2 c l) = slot K (col st l) c := fun c => pay12_apply st c l
  have hv : ∀ c, k0_pay15 (F := Ideal) v sel (ix2 c l) = if selected K (col st l) c then ((c.val : ℕ) : EReal) else 0 :=
    fun c => pay15_apply st c l
  have hp : ∀ (c : Fin 64) (q : Fin 8), (c.val + 64 * q.val) / 64 = q.val := by intro c q; omega
  refine congrArg (Ideal.fptosi 32) ?_
  refine pick_one (fun q => ∑ c, if slot K (col st l) c = ((q.val : ℕ) : EReal) then
      (if selected K (col st l) c then ((c.val : ℕ) : EReal) else 0) else 0) _ ?_ ?_
  · intro q hq
    refine Finset.sum_congr rfl fun c _ => ?_
    refine (congrArg₂ (· * ·) (hE q c) (if_pos ((hp c q).trans hq))).trans ?_
    rw [mul_one, hs, hv]
  · intro q hq
    refine Finset.sum_eq_zero fun c _ => ?_
    refine (congrArg₂ (· * ·) (hE q c) (if_neg fun h => hq ((hp c q).symm.trans h))).trans ?_
    exact mul_zero _

end Cert.Proof.Column
-- ==== Proof.Order.lean ====
/- From the reference's ordering of a row to the kernel's selection: the first eight entries of the row in decreasing
   order (ties in order of position) lead the column the kernel strikes out of, whether the kernel fills the hidden
   entries with decreasing finite values or with minus infinity; and the row's results agree. -/
module

public import proofs.«01_k».proof.Proof.Row

@[expose] public section

noncomputable section

open Idealize.ShloMosaic
open scoped Classical

namespace Cert.Proof

/-- A row's scores with the entries from `n` on minus infinity. -/
def masked (n : ℕ) (s : Fin 64 → EReal) (c : Fin 64) : EReal := if c.val < n then s c else ⊥

/-- A row's scores with the entries from `n` on filled by `h`. -/
def filled (n : ℕ) (s h : Fin 64 → EReal) (c : Fin 64) : EReal := if c.val < n then s c else h c

/-- The scores before `n` are finite, at least `T`, and different. -/
structure Separated (T : EReal) (n : ℕ) (s : Fin 64 → EReal) : Prop where
  ge : ∀ c : Fin 64, c.val < n → T ≤ s c
  lt : ∀ c : Fin 64, c.val < n → s c < ⊤
  apart : ∀ c k : Fin 64, c.val < n → k < c → s c ≠ s k

/-- The fillings lie between `K` and `T` and strictly decrease. -/
structure Filling (K T : EReal) (h : Fin 64 → EReal) : Prop where
  gt : ∀ c, K < h c
  lt : ∀ c, h c < T
  desc : ∀ c k : Fin 64, c < k → h k < h c

/-- `σ` lists the first eight positions of `r` in decreasing order, ties in order of position. -/
structure Listed (r : Fin 64 → EReal) (σ : Fin 8 → Fin 64) : Prop where
  inj : Function.Injective σ
  ordered : ∀ i j : Fin 8, i < j → r (σ j) < r (σ i) ∨ (r (σ j) = r (σ i) ∧ σ i < σ j)
  rest : ∀ c : Fin 64, (∀ j, σ j ≠ c) → ∀ i, r c < r (σ i) ∨ (r c = r (σ i) ∧ σ i < c)

/-- `τ` lists the same positions as `σ`, in increasing order. -/
structure Resorted (σ τ : Fin 8 → Fin 64) : Prop where
  mono : StrictMono τ
  listed : ∀ q, ∃ i, σ i = τ q
  found : ∀ i, ∃ q, τ q = σ i

variable {K T : EReal} {n : ℕ} {s h : Fin 64 → EReal} {σ τ : Fin 8 → Fin 64}

theorem masked_pos (hc : ∀ {c : Fin 64}, c.val < n → T ≤ s c) (hT : ⊥ < T) {c : Fin 64} : ⊥ < masked n s c ↔ c.val < n := by
  unfold masked
  by_cases h : c.val < n
  · rw [if_pos h]; exact ⟨fun _ => h, fun _ => hT.trans_le (hc h)⟩
  · rw [if_neg h]; exact ⟨fun h' => absurd h' (lt_irrefl _), fun h' => absurd h' h⟩

section
variable (hs : Separated T n s) (hT : ⊥ < T) (hKT : K < T)
include hs hT

/-- Among the first eight a hidden position is only listed when every visible one is. -/
theorem Listed.visible_listed (hl : Listed (masked n s) σ) (i : Fin 8) (hi : ¬ (σ i).val < n) (c : Fin 64) (hc : c.val < n) :
    ∃ j, σ j = c := by
  by_contra hne
  have hpos : ⊥ < masked n s c := (masked_pos (hs.ge _) hT).2 hc
  have hbot : masked n s (σ i) = ⊥ := if_neg hi
  rcases hl.rest c (fun j hj => hne ⟨j, hj⟩) i with h1 | ⟨h1, _⟩
  · rw [hbot] at h1; exact absurd h1 not_lt_bot
  · rw [hbot] at h1; exact absurd h1 hpos.ne'

/-- With at least eight visible entries, the eight listed are visible. -/
theorem Listed.all_visible (hl : Listed (masked n s) σ) (hn : 8 ≤ n) (i : Fin 8) : (σ i).val < n := by
  by_contra hi
  have hsub : insert (σ i) (Finset.univ.image fun q : Fin 8 => (q.castLE (by norm_num) : Fin 64)) ⊆ Finset.univ.image σ := by
    intro c hc
    rcases Finset.mem_insert.1 hc with rfl | hc
    · exact Finset.mem_image.2 ⟨i, Finset.mem_univ _, rfl⟩
    · obtain ⟨q, _, rfl⟩ := Finset.mem_image.1 hc
      obtain ⟨j, hj⟩ := hl.visible_listed hs hT i hi (q.castLE (by norm_num)) (lt_of_lt_of_le q.isLt hn)
      exact Finset.mem_image.2 ⟨j, Finset.mem_univ _, hj⟩
  have hcard := Finset.card_le_card hsub
  rw [Finset.card_insert_of_notMem, Finset.card_image_of_injective _ (Fin.castLE_injective _),
    Finset.card_image_of_injective _ hl.inj] at hcard
  · simp at hcard
  · intro hm
    obtain ⟨q, _, hq⟩ := Finset.mem_image.1 hm
    apply hi
    rw [← hq]
    exact lt_of_lt_of_le q.isLt hn

omit hT in
/-- Two visible entries have different scores. -/
theorem Separated.ne {c k : Fin 64} (hc : c.val < n) (hk : k.val < n) (hck : c ≠ k) : s c ≠ s k := by
  rcases lt_or_gt_of_ne hck with h1 | h1
  · exact (hs.apart k c hk h1).symm
  · exact hs.apart c k hc h1

/-- Comparing masked scores (ties by position) is comparing filled ones. -/
theorem filled_lt (hh : Filling K T h) {c k : Fin 64} (hck : k ≠ c)
    (hlt : masked n s c < masked n s k ∨ (masked n s c = masked n s k ∧ k < c)) : filled n s h c < filled n s h k := by
  by_cases hk : k.val < n
  · by_cases hc : c.val < n
    · simp only [masked, filled, if_pos hk, if_pos hc] at hlt ⊢
      rcases hlt with h1 | ⟨h1, _⟩
      · exact h1
      · exact absurd h1 (hs.ne hc hk hck.symm)
    · simp only [filled, if_pos hk, if_neg hc]
      exact (hh.lt c).trans_le (hs.ge k hk)
  · have hb : masked n s k = ⊥ := if_neg hk
    rw [hb] at hlt
    rcases hlt with h1 | ⟨h1, h2⟩
    · exact absurd h1 not_lt_bot
    · have hc : ¬ c.val < n := fun hc => absurd h1 ((masked_pos (hs.ge _) hT).2 hc).ne'
      simp only [filled, if_neg hk, if_neg hc]
      exact hh.desc k c h2

include hKT

/-- The eight listed positions lead the filled column. -/
theorem Listed.leading_filled (hl : Listed (masked n s) σ) (hh : Filling K T h) : Leading K (filled n s h) σ 8 where
  le := le_rfl
  above i _ := by
    unfold filled
    split
    · next hi => exact hKT.trans_le (hs.ge _ hi)
    · exact hh.gt _
  desc i j hij _ := filled_lt hs hT hh (fun he => hij.ne (hl.inj he)) (hl.ordered i j hij)
  rest c hc i _ := filled_lt hs hT hh (hc i i.isLt) (hl.rest c (fun j => hc j j.isLt) i)
  full := Or.inl rfl

/-- The visible ones among the eight listed lead the masked column. -/
theorem Listed.leading_masked (hl : Listed (masked n s) σ) (hK : ⊥ < K) (hn : 0 < n) :
    ∃ m, 1 ≤ m ∧ Leading K (masked n s) σ m ∧ ∀ j : Fin 8, j.val < m ↔ (σ j).val < n := by
  have hdown : ∀ i j : Fin 8, i < j → (σ j).val < n → (σ i).val < n := by
    intro i j hij hj
    have hpos := (masked_pos (hs.ge _) hT).2 hj
    rcases hl.ordered i j hij with h1 | ⟨h1, _⟩
    · exact (masked_pos (hs.ge _) hT).1 (hpos.trans h1)
    · exact (masked_pos (hs.ge _) hT).1 (h1 ▸ hpos)
  have h0 : (σ 0).val < n := by
    by_contra hi
    obtain ⟨j, hj⟩ := hl.visible_listed hs hT 0 hi 0 hn
    rcases Nat.eq_zero_or_pos j.val with hz | hz
    · apply hi; rw [← (Fin.ext hz : j = 0), hj]; exact hn
    · exact hi (hdown 0 j hz (by rw [hj]; exact hn))
  obtain ⟨m, hm8, hm⟩ : ∃ m ≤ 8, ∀ j : Fin 8, j.val < m ↔ (σ j).val < n := by
    by_cases hall : ∀ j : Fin 8, (σ j).val < n
    · exact ⟨8, le_rfl, fun j => ⟨fun _ => hall j, fun _ => j.isLt⟩⟩
    · have hex : ∃ j : ℕ, ∃ hj : j < 8, ¬ (σ ⟨j, hj⟩).val < n := by
        obtain ⟨j, hj⟩ := not_forall.1 hall
        exact ⟨j.val, j.isLt, hj⟩
      obtain ⟨h8, hbad⟩ := Nat.find_spec hex
      refine ⟨Nat.find hex, h8.le, fun j => ⟨fun hj => ?_, fun hj => ?_⟩⟩
      · by_contra hb
        exact Nat.find_min hex hj ⟨j.isLt, hb⟩
      · by_contra hb
        rcases lt_or_eq_of_le (not_lt.1 hb) with h1 | h1
        · exact hbad (hdown ⟨Nat.find hex, h8⟩ j h1 hj)
        · exact hbad (by rw [show (⟨Nat.find hex, h8⟩ : Fin 8) = j from Fin.ext h1]; exact hj)
  have hm1 : 1 ≤ m := (hm 0).2 h0
  have strict : ∀ c i, (σ i).val < n → σ i ≠ c → (masked n s c < masked n s (σ i) ∨ (masked n s c = masked n s (σ i) ∧ σ i < c)) →
      masked n s c < masked n s (σ i) := by
    intro c i hi hne hlt
    rcases hlt with h1 | ⟨h1, _⟩
    · exact h1
    · have hc : c.val < n := (masked_pos (hs.ge _) hT).1 (h1 ▸ (masked_pos (hs.ge _) hT).2 hi)
      simp only [masked, if_pos hi, if_pos hc] at h1
      exact absurd h1 (hs.ne hc hi hne.symm)
  refine ⟨m, hm1, ⟨hm8, ?_, ?_, ?_, ?_⟩, hm⟩
  · intro i hi
    rw [masked, if_pos ((hm i).1 hi)]
    exact hKT.trans_le (hs.ge _ ((hm i).1 hi))
  · intro i j hij hj
    exact strict _ i ((hm i).1 (lt_trans hij hj)) (fun he => hij.ne (hl.inj he)) (hl.ordered i j hij)
  · intro c hc i hi
    by_cases hlist : ∃ j, σ j = c
    · obtain ⟨j, rfl⟩ := hlist
      have hj : ¬ (σ j).val < n := fun hj => hc j ((hm j).2 hj) rfl
      rw [show masked n s (σ j) = ⊥ from if_neg hj]
      exact (masked_pos (hs.ge _) hT).2 ((hm i).1 hi)
    · exact strict c i ((hm i).1 hi) (fun he => hlist ⟨i, he⟩) (hl.rest c (fun j hj => hlist ⟨j, hj⟩) i)
  · rcases Nat.lt_or_ge m 8 with hlt | hge
    · refine Or.inr ⟨hm1, fun c hc => ?_⟩
      have hhid : ¬ (σ ⟨m, hlt⟩).val < n := fun hv => absurd ((hm ⟨m, hlt⟩).2 hv) (lt_irrefl m)
      have : ¬ c.val < n := by
        intro hv
        obtain ⟨j, hj⟩ := hl.visible_listed hs hT ⟨m, hlt⟩ hhid c hv
        exact hc j ((hm j).2 (by rw [hj]; exact hv)) hj
      rw [show masked n s c = ⊥ from if_neg this]
      exact hK
    · exact Or.inl (le_antisymm hm8 hge)

variable (hl : Listed (masked n s) σ) (hτ : Resorted σ τ)
include hl hτ

/-- All eight listed positions are selected: the slots are the positions in increasing order. -/
theorem slots_all {st : Fin 64 → EReal} (hL : Leading K st σ 8) : Slots K st τ fun _ => True where
  mono := hτ.mono
  sel c := by
    rw [hL.selected_iff]
    constructor
    · rintro ⟨j, _, rfl⟩
      obtain ⟨q, hq⟩ := hτ.found j
      exact ⟨q, hq, trivial⟩
    · rintro ⟨q, rfl, _⟩
      obtain ⟨i, hi⟩ := hτ.listed q
      exact ⟨i, i.isLt, hi⟩
  initial _ _ _ _ := trivial

/-- FINITE FILLINGS, INDICES: the kernel's index in slot `p` is the `p`-th smallest listed position, on every row. -/
theorem outI_filled (hh : Filling K T h) (p : Fin 8) : outI K (filled n s h) p = (((τ p).val : ℕ) : EReal) :=
  outI_eq (slots_all hs hT hKT hl hτ (hl.leading_filled hs hT hKT hh)) p

/-- FINITE FILLINGS, WEIGHTS: with at least eight visible entries the kernel's weights are the reference's. -/
theorem outW_filled (hh : Filling K T h) (hn : 8 ≤ n) (p : Fin 8) :
    outW K T (filled n s h) p = refW (fun q => masked n s (τ q)) p := by
  have hL := hl.leading_filled hs hT hKT hh
  have hvis : ∀ q, (τ q).val < n := by
    intro q
    obtain ⟨i, hi⟩ := hτ.listed q
    rw [← hi]; exact hl.all_visible hs hT hn i
  have hst : ∀ q, filled n s h (τ q) = masked n s (τ q) := fun q => by
    unfold filled masked; rw [if_pos (hvis q), if_pos (hvis q)]
  obtain ⟨p0, hp0⟩ := hτ.found 0
  have htop : top (filled n s h) = masked n s (τ p0) := by rw [hL.top_eq (by norm_num), ← hp0, hst]
  refine outW_eq (slots_all hs hT hKT hl hτ hL) (fun q => masked n s (τ q)) (fun q _ => hst q) (fun q hq => absurd trivial hq)
    (fun q => ?_) p0 ((masked_pos (hs.ge _) hT).2 (hvis p0)) htop (fun q => ?_) ?_ p
  · rw [masked, if_pos (hvis q)]; exact hs.lt _ (hvis q)
  · show masked n s (τ q) ≤ masked n s (τ p0)
    rw [← htop, ← hst]; exact Finset.le_sup (Finset.mem_univ _)
  · rw [masked, if_pos (hvis p0)]; exact hs.ge _ (hvis p0)

/-- MINUS INFINITY, INDICES: with at least eight visible entries the kernel's indices are the listed positions. -/
theorem outI_masked (hK : ⊥ < K) (hn : 8 ≤ n) (p : Fin 8) : outI K (masked n s) p = (((τ p).val : ℕ) : EReal) := by
  obtain ⟨m, _, hL, hm⟩ := hl.leading_masked hs hT hKT hK (by omega)
  have : m = 8 := by
    have := (hm 7).2 (hl.all_visible hs hT hn 7)
    have h8 := hL.le
    simp at this; omega
  subst this
  exact outI_eq (slots_all hs hT hKT hl hτ hL) p

/-- MINUS INFINITY, WEIGHTS: the kernel's weights are the reference's, on every row. -/
theorem outW_masked (hK : ⊥ < K) (p : Fin 8) : outW K T (masked n s) p = refW (fun q => masked n s (τ q)) p := by
  rcases Nat.eq_zero_or_pos n with h0 | hn
  · have hb : ∀ c, masked n s c = ⊥ := fun c => if_neg (by omega)
    rw [outW_bot hT hb, refW_bot fun q => hb _]
  obtain ⟨m, hm1, hL, hm⟩ := hl.leading_masked hs hT hKT hK hn
  have hslots : Slots K (masked n s) τ fun q => (τ q).val < n :=
    { mono := hτ.mono
      sel := fun c => by
        rw [hL.selected_iff]
        constructor
        · rintro ⟨j, hj, rfl⟩
          obtain ⟨q, hq⟩ := hτ.found j
          exact ⟨q, hq, by rw [hq]; exact (hm j).1 hj⟩
        · rintro ⟨q, rfl, hq⟩
          obtain ⟨i, hi⟩ := hτ.listed q
          exact ⟨i, (hm i).2 (by rw [hi]; exact hq), hi⟩
      initial := fun q p hqp hp => lt_trans (hτ.mono hqp) hp }
  obtain ⟨p0, hp0⟩ := hτ.found 0
  have hvis0 : (τ p0).val < n := by rw [hp0]; exact (hm 0).1 hm1
  have htop : top (masked n s) = masked n s (τ p0) := by rw [hL.top_eq hm1, ← hp0]
  refine outW_eq hslots (fun q => masked n s (τ q)) (fun q _ => rfl) (fun q hq => if_neg hq)
    (fun q => ?_) p0 ((masked_pos (hs.ge _) hT).2 hvis0) htop (fun q => ?_) ?_ p
  · show masked n s (τ q) < ⊤
    unfold masked
    split
    · next hq => exact hs.lt _ hq
    · exact bot_lt_top
  · show masked n s (τ q) ≤ masked n s (τ p0)
    rw [← htop]; exact Finset.le_sup (Finset.mem_univ _)
  · rw [masked, if_pos hvis0]; exact hs.ge _ hvis0

end

end Cert.Proof

end
-- ==== Proof.Score.lean ====
/- The score of a chunk for a row, written once: the row and the chunk's summary each scaled to unit mean square, the row
   projected in between, and their inner product divided by 16. -/
module

public import proofs.«01_k».proof.Proof.Order
public import Idealize.ShloMosaic.Lib.Pointwise

@[expose] public section

noncomputable section

open Idealize.ShloMosaic
open scoped Classical

namespace Cert.Proof

/-- A vector scaled by the reciprocal root of its mean square (`N` the length as a number), with 10⁻⁶ added under the
    root. -/
def normed {n : ℕ} (N : EReal) (x : Fin n → EReal) (k : Fin n) : EReal :=
  x k * Ideal.rsqrt (Ideal.div (∑ j, x j * x j) N + Ideal.ofBits .f32 0x358637BD#32)

/-- The projection of the scaled row `h`, weighted by `g`, by the matrix `W`. -/
def proj (h : Fin 2048 → EReal) (W : Fin 256 → Fin 2048 → EReal) (g : Fin 2048 → EReal) (d : Fin 256) : EReal :=
  ∑ k, normed (Ideal.ofBits .f32 0x45000000#32) h k * g k * W d k

/-- The score of the chunk with summary `m` for the row `h`. -/
def score (h : Fin 2048 → EReal) (W : Fin 256 → Fin 2048 → EReal) (g : Fin 2048 → EReal) (q m w : Fin 256 → EReal) : EReal :=
  Ideal.div (∑ d, normed (Ideal.ofBits .f32 0x43800000#32) (proj h W g) d * q d
    * (normed (Ideal.ofBits .f32 0x43800000#32) m d * w d)) (Ideal.ofBits .f32 0x41800000#32)

theorem ofBits_sixteen : Ideal.ofBits .f32 0x41800000#32 = ((16 : ℝ) : EReal) := by
  simp [Ideal.ofBits, Ideal.ieee, -EReal.coe_mul] <;> norm_num <;> rfl

theorem ofBits_sixteenth : Ideal.ofBits .f32 0x3D800000#32 = ((1 / 16 : ℝ) : EReal) := by
  simp [Ideal.ofBits, Ideal.ieee, -EReal.coe_mul] <;> norm_num <;> rfl

theorem ofBits_one : Ideal.ofBits .f32 0x3F800000#32 = 1 := by
  simp [Ideal.ofBits, Ideal.ieee, -EReal.coe_mul] <;> norm_num <;> rfl

/-- With weights of one, the score as a product with 1/16 whose factors stand in the other order. -/
theorem score_eq (h : Fin 2048 → EReal) (W : Fin 256 → Fin 2048 → EReal) (g : Fin 2048 → EReal) (hg : ∀ k, g k = 1)
    (q m w : Fin 256 → EReal) :
    score h W g q m w
      = (∑ d, normed (Ideal.ofBits .f32 0x43800000#32) m d * w d
          * (normed (Ideal.ofBits .f32 0x43800000#32)
              (fun d => ∑ k, normed (Ideal.ofBits .f32 0x45000000#32) h k * W d k) d * q d))
        * Ideal.ofBits .f32 0x3D800000#32 := by
  unfold score
  rw [ofBits_sixteen, ofBits_sixteenth, Ideal.div_coe (by norm_num)]
  have hp : proj h W g = fun d => ∑ k, normed (Ideal.ofBits .f32 0x45000000#32) h k * W d k := by
    funext d
    refine Finset.sum_congr rfl fun k _ => ?_
    rw [hg, mul_one]
  rw [hp]
  congr 1
  exact Finset.sum_congr rfl fun d _ => mul_comm _ _

end Cert.Proof
-- ==== Proof.Block.lean ====
/- What the kernel's body leaves in its two output blocks, entry by entry: each row's result as a function of that row's
   column of scores. -/
module

public import proofs.«01_k».proof.Proof.Pick
public import proofs.«01_k».proof.Proof.Score
public import proofs.«01_k».proof.Proof.Gen.KernelIdeal.Frame
public import proofs.«01_k».proof.Proof.Gen.KernelNamed.Frame

@[expose] public section

set_option maxRecDepth 16384

noncomputable section

open Idealize.ShloMosaic
open scoped Classical

namespace Cert.Proof.Column

/-- Offsets of zero. -/
theorem zero2 : (![0, 0] : Fin 2 → ℕ) = fun _ => 0 := by funext a; fin_cases a <;> rfl
theorem zero3 : (![0, 0, 0] : Fin 3 → ℕ) = fun _ => 0 := by funext a; fin_cases a <;> rfl

section KernelIdeal
open Cert.KernelIdeal Cert.KernelIdeal.Gen

variable (i : grid0.Coords) (x0 : Vec Ideal S1x1024x2048 .f32) (x1 : Vec Ideal S1x64x256 .f32)
  (x2 : Vec Ideal S256x2048 .bf16) (x3 : Vec Ideal S1x256 .f32) (x4 : Vec Ideal S1x256 .f32)

/-- The block of weights at an entry. -/
theorem out5_apply (l : Fin 1024) (j : Fin 32) :
    out0_5 i x0 x1 x2 x3 x4 (ix3 0 l j)
      = outW K T (col (k0_pay57 i x0 x1 x2 x3 x4) l) ⟨j.val % 8, Nat.mod_lt _ (by norm_num)⟩ := by
  unfold out0_5 k0_pay61 k0_pay60 k0_pay59 k0_pay58 k0_pay62
  rw [View.canon_unit_zero (by exact zero3)]
  rw [pay9_eq, pay8_eq]
  exact weights_apply (k0_pay57 i x0 x1 x2 x3 x4) l j

/-- The block of indices at an entry. -/
theorem out6_apply (l : Fin 1024) (j : Fin 32) :
    out0_6 i x0 x1 x2 x3 x4 (ix3 0 l j)
      = Ideal.fptosi 32 (outI K (col (k0_pay57 i x0 x1 x2 x3 x4) l) ⟨j.val % 8, Nat.mod_lt _ (by norm_num)⟩) := by
  unfold out0_6 k0_pay61 k0_pay59 k0_pay58 k0_pay62 k0_pay56
  rw [View.canon_unit_zero (by exact zero3)]
  rw [pay9_eq]
  exact indices_apply (k0_pay57 i x0 x1 x2 x3 x4) l j

/-- The block of scores at an entry: the inner product times 1/16 where the chunk is visible, else the mask's constant and
    the chunk's shift. -/
theorem scores_apply (c : Fin 64) (l : Fin 1024) :
    k0_pay57 i x0 x1 x2 x3 x4 (ix2 c l)
      = Scalar.select (IntOp.cmpi .sge (IntOp.addi (Scalar.muli (BitVec.ofNat 32 (i 1).val) 1024#32) (BitVec.ofNat 32 l.val))
          (IntOp.muli (IntOp.addi (BitVec.ofNat 32 c.val) 1#32) 64#32))
        ((∑ d, normed (Ideal.ofBits .f32 0x43800000#32) (fun d => x1 (ix3 0 c d)) d * x4 (ix2 0 d)
          * (normed (Ideal.ofBits .f32 0x43800000#32)
              (fun d => ∑ k, normed (Ideal.ofBits .f32 0x45000000#32) (fun k => x0 (ix3 0 l k)) k * x2 (ix2 d k)) d * x3 (ix2 0 d)))
          * Ideal.ofBits .f32 0x3D800000#32)
        (Ideal.ofBits .f32 0xF149F2CA#32 + (FloatOps.sitofp .f32 (BitVec.ofNat 32 c.val) : Ideal .f32) * Ideal.ofBits .f32 0xEC4ECB8F#32) := by
  unfold k0_pay57 k0_pay53 k0_pay54 k0_pay55
  rw [View.ld_unit_zero (by exact zero3), View.ld_unit_zero (by exact zero2), View.ld_unit_zero (by exact zero2),
    View.ld_unit_zero (by exact zero3), View.ld_unit_zero (by exact zero2)]
  unfold k0_pay7 k0_pay6 k0_pay5 k0_pay4 k0_pay3
  pointwise
  rfl

end KernelIdeal

section KernelNamed
open Cert.KernelNamed Cert.KernelNamed.Gen

/-! The body with the mask's constant named is the same body outside the scores. -/

theorem same1 : Cert.KernelNamed.Gen.k0_pay1 (F := Ideal) = Cert.KernelIdeal.Gen.k0_pay1 (F := Ideal) := rfl
theorem same2 : Cert.KernelNamed.Gen.k0_pay2 (F := Ideal) = Cert.KernelIdeal.Gen.k0_pay2 (F := Ideal) := rfl
theorem same6 : Cert.KernelNamed.Gen.k0_pay6 (F := Ideal) = Cert.KernelIdeal.Gen.k0_pay6 (F := Ideal) := rfl
theorem same10 : Cert.KernelNamed.Gen.k0_pay10 (F := Ideal) = Cert.KernelIdeal.Gen.k0_pay10 (F := Ideal) := rfl
theorem same11 : Cert.KernelNamed.Gen.k0_pay11 (F := Ideal) = Cert.KernelIdeal.Gen.k0_pay11 (F := Ideal) := rfl
theorem same12 : Cert.KernelNamed.Gen.k0_pay12 (F := Ideal) = Cert.KernelIdeal.Gen.k0_pay12 (F := Ideal) := rfl
theorem same13 : Cert.KernelNamed.Gen.k0_pay13 (F := Ideal) = Cert.KernelIdeal.Gen.k0_pay13 (F := Ideal) := rfl
theorem same14 : Cert.KernelNamed.Gen.k0_pay14 (F := Ideal) = Cert.KernelIdeal.Gen.k0_pay14 (F := Ideal) := rfl
theorem same15 : Cert.KernelNamed.Gen.k0_pay15 (F := Ideal) = Cert.KernelIdeal.Gen.k0_pay15 (F := Ideal) := rfl
theorem same16 : Cert.KernelNamed.Gen.k0_pay16 (F := Ideal) = Cert.KernelIdeal.Gen.k0_pay16 (F := Ideal) := rfl
theorem same18 : Cert.KernelNamed.Gen.k0_pay18 (F := Ideal) = Cert.KernelIdeal.Gen.k0_pay18 (F := Ideal) := rfl
theorem same19 : Cert.KernelNamed.Gen.k0_pay19 (F := Ideal) = Cert.KernelIdeal.Gen.k0_pay19 (F := Ideal) := rfl
theorem same20 : Cert.KernelNamed.Gen.k0_pay20 (F := Ideal) = Cert.KernelIdeal.Gen.k0_pay20 (F := Ideal) := rfl
theorem same22 : Cert.KernelNamed.Gen.k0_pay22 (F := Ideal) = Cert.KernelIdeal.Gen.k0_pay22 (F := Ideal) := rfl
theorem same23 : Cert.KernelNamed.Gen.k0_pay23 (F := Ideal) = Cert.KernelIdeal.Gen.k0_pay23 (F := Ideal) := rfl
theorem same24 : Cert.KernelNamed.Gen.k0_pay24 (F := Ideal) = Cert.KernelIdeal.Gen.k0_pay24 (F := Ideal) := rfl
theorem same26 : Cert.KernelNamed.Gen.k0_pay26 (F := Ideal) = Cert.KernelIdeal.Gen.k0_pay26 (F := Ideal) := rfl
theorem same27 : Cert.KernelNamed.Gen.k0_pay27 (F := Ideal) = Cert.KernelIdeal.Gen.k0_pay27 (F := Ideal) := rfl
theorem same28 : Cert.KernelNamed.Gen.k0_pay28 (F := Ideal) = Cert.KernelIdeal.Gen.k0_pay28 (F := Ideal) := rfl
theorem same30 : Cert.KernelNamed.Gen.k0_pay30 (F := Ideal) = Cert.KernelIdeal.Gen.k0_pay30 (F := Ideal) := rfl
theorem same31 : Cert.KernelNamed.Gen.k0_pay31 (F := Ideal) = Cert.KernelIdeal.Gen.k0_pay31 (F := Ideal) := rfl
theorem same32 : Cert.KernelNamed.Gen.k0_pay32 (F := Ideal) = Cert.KernelIdeal.Gen.k0_pay32 (F := Ideal) := rfl
theorem same34 : Cert.KernelNamed.Gen.k0_pay34 (F := Ideal) = Cert.KernelIdeal.Gen.k0_pay34 (F := Ideal) := rfl
theorem same35 : Cert.KernelNamed.Gen.k0_pay35 (F := Ideal) = Cert.KernelIdeal.Gen.k0_pay35 (F := Ideal) := rfl
theorem same36 : Cert.KernelNamed.Gen.k0_pay36 (F := Ideal) = Cert.KernelIdeal.Gen.k0_pay36 (F := Ideal) := rfl
theorem same38 : Cert.KernelNamed.Gen.k0_pay38 (F := Ideal) = Cert.KernelIdeal.Gen.k0_pay38 (F := Ideal) := rfl
theorem same39 : Cert.KernelNamed.Gen.k0_pay39 (F := Ideal) = Cert.KernelIdeal.Gen.k0_pay39 (F := Ideal) := rfl
theorem same40 : Cert.KernelNamed.Gen.k0_pay40 (F := Ideal) = Cert.KernelIdeal.Gen.k0_pay40 (F := Ideal) := rfl
theorem same41 : Cert.KernelNamed.Gen.k0_pay41 (F := Ideal) = Cert.KernelIdeal.Gen.k0_pay41 (F := Ideal) := rfl
theorem same42 : Cert.KernelNamed.Gen.k0_pay42 (F := Ideal) = Cert.KernelIdeal.Gen.k0_pay42 (F := Ideal) := rfl
theorem same43 : Cert.KernelNamed.Gen.k0_pay43 (F := Ideal) = Cert.KernelIdeal.Gen.k0_pay43 (F := Ideal) := rfl
theorem same45 : Cert.KernelNamed.Gen.k0_pay45 (F := Ideal) = Cert.KernelIdeal.Gen.k0_pay45 (F := Ideal) := rfl
theorem same46 : Cert.KernelNamed.Gen.k0_pay46 (F := Ideal) = Cert.KernelIdeal.Gen.k0_pay46 (F := Ideal) := rfl
theorem same47 : Cert.KernelNamed.Gen.k0_pay47 = Cert.KernelIdeal.Gen.k0_pay47 := rfl
theorem same48 : Cert.KernelNamed.Gen.k0_pay48 = Cert.KernelIdeal.Gen.k0_pay48 := rfl
theorem same49 : Cert.KernelNamed.Gen.k0_pay49 (F := Ideal) = Cert.KernelIdeal.Gen.k0_pay49 (F := Ideal) := rfl
theorem same50 : Cert.KernelNamed.Gen.k0_pay50 = Cert.KernelIdeal.Gen.k0_pay50 := rfl
theorem same51 : Cert.KernelNamed.Gen.k0_pay51 = Cert.KernelIdeal.Gen.k0_pay51 := rfl
theorem same52 : Cert.KernelNamed.Gen.k0_pay52 = Cert.KernelIdeal.Gen.k0_pay52 := rfl

theorem named_pay8_eq (a : BitVec 32) (x : FVec Ideal S1024x256 .f32) (y : FVec Ideal S64x256 .f32) (z : FVec Ideal S64x1 .f32)
    (w : FVec Ideal S1x256 .f32) : k0_pay8 a x y z w = topRow (k0_pay7 a x y z w) := by
  unfold k0_pay8
  generalize k0_pay7 a x y z w = st
  rfl

theorem named_pay9_eq (a : BitVec 32) (x : FVec Ideal S1024x256 .f32) (y : FVec Ideal S64x256 .f32) (z : FVec Ideal S64x1 .f32)
    (w : FVec Ideal S1x256 .f32) : k0_pay9 a x y z w = strikeAll^[3] (k0_pay7 a x y z w) := by
  unfold k0_pay9 k0_pay8
  generalize k0_pay7 a x y z w = st
  rfl

variable (i : grid0.Coords) (x0 : Vec Ideal S1x1024x2048 .f32) (x1 : Vec Ideal S1x64x256 .f32)
  (x2 : Vec Ideal S256x2048 .bf16) (x3 : Vec Ideal S1x256 .f32) (x4 : Vec Ideal S1x256 .f32)

/-- The block of weights at an entry, the mask's constant named. -/
theorem named_out5_apply (l : Fin 1024) (j : Fin 32) :
    out0_5 i x0 x1 x2 x3 x4 (ix3 0 l j)
      = outW K T (col (k0_pay57 i x0 x1 x2 x3 x4) l) ⟨j.val % 8, Nat.mod_lt _ (by norm_num)⟩ := by
  unfold out0_5 k0_pay61 k0_pay60 k0_pay59 k0_pay58 k0_pay62
  rw [View.canon_unit_zero (by exact zero3)]
  rw [named_pay9_eq, named_pay8_eq]
  simp only [same1, same2, same6, same10, same11, same12, same13, same14, same15, same16, same18, same19, same20, same22, same23, same24, same26, same27, same28, same30, same31, same32, same34, same35, same36, same38, same39, same40, same41, same42, same43, same45, same46, same47, same48, same49, same50, same51, same52]
  exact weights_apply (k0_pay57 i x0 x1 x2 x3 x4) l j

/-- The block of indices at an entry, the mask's constant named. -/
theorem named_out6_apply (l : Fin 1024) (j : Fin 32) :
    out0_6 i x0 x1 x2 x3 x4 (ix3 0 l j)
      = Ideal.fptosi 32 (outI K (col (k0_pay57 i x0 x1 x2 x3 x4) l) ⟨j.val % 8, Nat.mod_lt _ (by norm_num)⟩) := by
  unfold out0_6 k0_pay61 k0_pay59 k0_pay58 k0_pay62 k0_pay56
  rw [View.canon_unit_zero (by exact zero3)]
  rw [named_pay9_eq]
  simp only [same1, same2, same6, same10, same11, same12, same13, same14, same15, same16, same18, same19, same20, same22, same23, same24, same26, same27, same28, same30, same31, same32, same34, same35, same36, same38, same39, same40, same41, same42, same43, same45, same46, same47, same48, same49, same50, same51, same52]
  exact indices_apply (k0_pay57 i x0 x1 x2 x3 x4) l j

/-- The block of scores at an entry, the mask's constant named: `⊥` where the chunk is hidden. -/
theorem named_scores_apply (c : Fin 64) (l : Fin 1024) :
    k0_pay57 i x0 x1 x2 x3 x4 (ix2 c l)
      = Scalar.select (IntOp.cmpi .sge (IntOp.addi (Scalar.muli (BitVec.ofNat 32 (i 1).val) 1024#32) (BitVec.ofNat 32 l.val))
          (IntOp.muli (IntOp.addi (BitVec.ofNat 32 c.val) 1#32) 64#32))
        ((∑ d, normed (Ideal.ofBits .f32 0x43800000#32) (fun d => x1 (ix3 0 c d)) d * x4 (ix2 0 d)
          * (normed (Ideal.ofBits .f32 0x43800000#32)
              (fun d => ∑ k, normed (Ideal.ofBits .f32 0x45000000#32) (fun k => x0 (ix3 0 l k)) k * x2 (ix2 d k)) d * x3 (ix2 0 d)))
          * Ideal.ofBits .f32 0x3D800000#32)
        ⊥ := by
  unfold k0_pay57 k0_pay53 k0_pay54 k0_pay55
  rw [View.ld_unit_zero (by exact zero3), View.ld_unit_zero (by exact zero2), View.ld_unit_zero (by exact zero2),
    View.ld_unit_zero (by exact zero3), View.ld_unit_zero (by exact zero2)]
  unfold k0_pay7 k0_pay6 k0_pay5 k0_pay4 k0_pay3
  pointwise
  congr 1

end KernelNamed

end Cert.Proof.Column
-- ==== Proof.Visible.lean ====
/- The kernel's scores of one row, the chunks it masks, and the values it gives the masked ones. -/
module

public import proofs.«01_k».proof.Proof.Order
public import proofs.«01_k».proof.Proof.Score
public import Idealize.ShloMosaic.Lib.WordCmp

@[expose] public section

noncomputable section

open Idealize.ShloMosaic
open scoped Classical

namespace Cert.Proof

/-- The score the kernel gives a chunk in a row: `h` the row of hidden states, `W` the projection, `q` and `w` the two
    scale vectors, `y` the chunk's landmark. -/
def kernelScore (h : Fin 2048 → EReal) (W : Fin 256 → Fin 2048 → EReal) (q y w : Fin 256 → EReal) : EReal :=
  (∑ d, normed (Ideal.ofBits .f32 0x43800000#32) y d * w d
      * (normed (Ideal.ofBits .f32 0x43800000#32)
          (fun d => ∑ k, normed (Ideal.ofBits .f32 0x45000000#32) h k * W d k) d * q d))
    * Ideal.ofBits .f32 0x3D800000#32

/-- The value the kernel gives the masked chunk `c`: the word of −1e30 and `c` times the word of −1e27. -/
def fillValue (c : Fin 64) : EReal :=
  Ideal.ofBits .f32 0xF149F2CA#32 + (FloatOps.sitofp .f32 (BitVec.ofNat 32 c.val) : Ideal .f32) * Ideal.ofBits .f32 0xEC4ECB8F#32

/-- A chunk index as a real. -/
theorem sitofp_chunk (c : Fin 64) : (FloatOps.sitofp .f32 (BitVec.ofNat 32 c.val) : Ideal .f32) = ((c.val : ℝ) : EReal) := by
  have h : (BitVec.ofNat 32 c.val).toInt = (c.val : ℤ) := by
    rw [WordCmp.toInt_eq_toNat_of_lt_half] <;> rw [WordCmp.toNat_ofNat_of_lt (by have := c.isLt; omega)]
    have := c.isLt; omega
  show (((BitVec.ofNat 32 c.val).toInt : ℝ) : EReal) = _
  rw [h]; norm_cast

/-- The words of −1e30, −1e27, −1e29 and −3e38. -/
theorem word_mask : Ideal.ofBits .f32 0xF149F2CA#32 = ((-13234890 * 2 ^ 76 : ℝ) : EReal) := by
  simp [Ideal.ofBits, Ideal.ieee, -EReal.coe_mul] <;> norm_num <;> rfl
theorem word_step : Ideal.ofBits .f32 0xEC4ECB8F#32 = ((-13552527 * 2 ^ 66 : ℝ) : EReal) := by
  simp [Ideal.ofBits, Ideal.ieee, -EReal.coe_mul] <;> norm_num <;> rfl
theorem word_bound : Ideal.ofBits .f32 0xEFA18F08#32 = ((-10587912 * 2 ^ 73 : ℝ) : EReal) := by
  simp [Ideal.ofBits, Ideal.ieee, -EReal.coe_mul] <;> norm_num <;> rfl
theorem word_struck : Ideal.ofBits .f32 0xFF61B1E6#32 = ((-14791142 * 2 ^ 104 : ℝ) : EReal) := by
  simp [Ideal.ofBits, Ideal.ieee, -EReal.coe_mul] <;> norm_num <;> rfl

/-- The values of masked chunks as reals. -/
theorem fillValue_eq (c : Fin 64) : fillValue c = ((-13234890 * 2 ^ 76 + (c.val : ℝ) * (-13552527 * 2 ^ 66) : ℝ) : EReal) := by
  unfold fillValue
  rw [sitofp_chunk, word_mask, word_step, ← EReal.coe_mul, ← EReal.coe_add]

/-- They lie between the struck value and the bound, and decrease from chunk to chunk. -/
theorem filling_fillValue : Filling (Ideal.ofBits .f32 0xFF61B1E6#32) (Ideal.ofBits .f32 0xEFA18F08#32) fillValue where
  gt c := by
    rw [fillValue_eq, word_struck, EReal.coe_lt_coe_iff]
    have : (c.val : ℝ) ≤ 63 := by exact_mod_cast Nat.le_of_lt_succ c.isLt
    linarith
  lt c := by
    rw [fillValue_eq, word_bound, EReal.coe_lt_coe_iff]
    have : (0 : ℝ) ≤ (c.val : ℝ) := by positivity
    linarith
  desc c k h := by
    rw [fillValue_eq, fillValue_eq, EReal.coe_lt_coe_iff]
    have : (c.val : ℝ) < (k.val : ℝ) := by exact_mod_cast h
    linarith

theorem bot_lt_bound : (⊥ : EReal) < Ideal.ofBits .f32 0xEFA18F08#32 := by rw [word_bound]; exact EReal.bot_lt_coe _
theorem bot_lt_struck : (⊥ : EReal) < Ideal.ofBits .f32 0xFF61B1E6#32 := by rw [word_struck]; exact EReal.bot_lt_coe _
theorem struck_lt_bound : Ideal.ofBits .f32 0xFF61B1E6#32 < Ideal.ofBits .f32 0xEFA18F08#32 := by
  rw [word_struck, word_bound, EReal.coe_lt_coe_iff]; norm_num

/-- The body's comparison of a row with a chunk's end, at grid coordinate `g` and row `l` of the block: chunk `c` is before
    chunk `r / 64` of row `r = 1024·g + l`. -/
theorem select_visible {α : Type} (g l : ℕ) (hg : g < 4) (hl : l < 1024) (c : Fin 64) (x y : α) :
    Scalar.select (IntOp.cmpi .sge (IntOp.addi (Scalar.muli (BitVec.ofNat 32 g) 1024#32) (BitVec.ofNat 32 l))
        (IntOp.muli (IntOp.addi (BitVec.ofNat 32 c.val) 1#32) 64#32)) x y
      = if c.val < (1024 * g + l) / 64 then x else y := by
  have hw : IntOp.muli (IntOp.addi (BitVec.ofNat 32 c.val) 1#32) 64#32 = BitVec.ofNat 32 ((c.val + 1) * 64) := by
    clear x y hl hg; revert c; decide
  have hm : Scalar.muli (BitVec.ofNat 32 g) 1024#32 = BitVec.ofNat 32 (g * 1024) := WordCmp.muli_ofNat ..
  have hc := c.isLt
  rw [hw, hm, WordCmp.addi_ofNat, WordCmp.cmpi_sge_ofNat (by norm_num; omega) (by norm_num; omega)]
  unfold Scalar.select
  by_cases hv : c.val < (1024 * g + l) / 64
  · rw [if_pos hv, if_pos]
    have : (c.val + 1) * 64 ≤ g * 1024 + l := by omega
    simp [this]
  · rw [if_neg hv, if_neg]
    have : ¬ (c.val + 1) * 64 ≤ g * 1024 + l := by omega
    simp [this]

/-- A chunk's number, converted to a word. -/
theorem word_of_chunk (c : Fin 64) : Ideal.fptosi 32 (((c.val : ℕ) : EReal)) = BitVec.ofNat 32 c.val := by
  have h : (((c.val : ℕ) : EReal)) = ((c.val : ℝ) : EReal) := by norm_cast
  rw [h]
  show BitVec.ofInt 32 (Ideal.toIntClamped _ _ _) = _
  rw [Ideal.toIntClamped_coe, if_pos (by positivity), Int.floor_natCast]
  have hc : (c.val : ℤ) < 64 := by exact_mod_cast c.isLt
  have h0 : (0 : ℤ) ≤ c.val := by positivity
  rw [min_eq_right (by norm_num; omega), max_eq_right (by norm_num)]
  exact BitVec.ofInt_natCast ..

end Cert.Proof

end
-- ==== Proof.Arrays.lean ====
/- The kernel's two result arrays after the run, entry by entry, as functions of the argument arrays. -/
module

public import proofs.«01_k».proof.Proof.Block
public import proofs.«01_k».proof.Proof.Visible
public import proofs.«01_k».proof.Proof.Gen.KernelIdeal.Value

@[expose] public section

set_option maxRecDepth 16384

noncomputable section

open Idealize.ShloMosaic Idealize.ShloMosaic.TcCoe Idealize.SL.Sem
open scoped Classical

namespace Cert.Proof.Column

section KernelIdeal
open Cert.KernelIdeal Cert.KernelIdeal.Gen

variable (m : (ℓ : Loc nD τ sig) → Buf (Elt Ideal) ℓ)

/-- The grid point `t` is the batch entry `t / 4` and the block of rows `t % 4`. -/
theorem coords : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

/-- Where the windows' blocks sit. -/
theorem idx0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, win0_0.index t (0 : Fin 3) = t.val / 4 ∧ win0_0.index t (1 : Fin 3) = t.val % 4
    ∧ win0_0.index t (2 : Fin 3) = 0)
theorem idx1 : ∀ t : Fin cfg0.N, win0_1.index t (0 : Fin 3) = t.val / 4 ∧ win0_1.index t (1 : Fin 3) = 0
    ∧ win0_1.index t (2 : Fin 3) = 0 :=
  (by decide +kernel : ∀ t : Fin grid0.N, win0_1.index t (0 : Fin 3) = t.val / 4 ∧ win0_1.index t (1 : Fin 3) = 0
    ∧ win0_1.index t (2 : Fin 3) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 3) = t.val / 4 ∧ win0_5.index t (1 : Fin 3) = t.val % 4
    ∧ win0_5.index t (2 : Fin 3) = 0 :=
  (by decide +kernel : ∀ t : Fin grid0.N, win0_5.index t (0 : Fin 3) = t.val / 4 ∧ win0_5.index t (1 : Fin 3) = t.val % 4
    ∧ win0_5.index t (2 : Fin 3) = 0)
theorem idx6 : ∀ t : Fin cfg0.N, win0_6.index t (0 : Fin 3) = t.val / 4 ∧ win0_6.index t (1 : Fin 3) = t.val % 4
    ∧ win0_6.index t (2 : Fin 3) = 0 :=
  (by decide +kernel : ∀ t : Fin grid0.N, win0_6.index t (0 : Fin 3) = t.val / 4 ∧ win0_6.index t (1 : Fin 3) = t.val % 4
    ∧ win0_6.index t (2 : Fin 3) = 0)

/-- The batch entry and the row of the arrays that row `l` of the blocks at point `t` is. -/
def batch (t : Fin cfg0.N) : Fin 2 := ⟨t.val / 4, by have h : t.val < 8 := lt_of_lt_of_eq t.isLt N_0; omega⟩
def line (t : Fin cfg0.N) (l : Fin 1024) : Fin 4096 := ⟨1024 * (t.val % 4) + l.val, by have := l.isLt; omega⟩

/-- The block of hidden states. -/
theorem hidden (c : Dev nD) (t : Fin cfg0.N) (l : Fin 1024) (k : Fin 2048) :
    iblk m c 0 t (ix3 0 l k) = m ((c : Thread nD τ).loc main_arg0) (ix3 (batch t) (line t l) k) := by
  show V m c main_arg0 (((cfg0.win 0).blk t).view.emb (ix3 0 l k)) = _
  rw [V_main_arg0]
  congr 1
  obtain ⟨e0, e1, e2⟩ := idx0 t
  funext a; apply Fin.ext
  match a with
  | ⟨0, _⟩ => show win0_0.index t (0 : Fin 3) * 1 + 1 * 0 = t.val / 4; omega
  | ⟨1, _⟩ => show win0_0.index t (1 : Fin 3) * 1024 + 1 * l.val = 1024 * (t.val % 4) + l.val; omega
  | ⟨2, _⟩ => show win0_0.index t (2 : Fin 3) * 2048 + 1 * k.val = k.val; omega

/-- The block of landmarks. -/
theorem landmark (c : Dev nD) (t : Fin cfg0.N) (q : Fin 64) (d : Fin 256) :
    iblk m c 1 t (ix3 0 q d) = m ((c : Thread nD τ).loc main_arg1) (ix3 (batch t) q d) := by
  show V m c main_arg1 (((cfg0.win 1).blk t).view.emb (ix3 0 q d)) = _
  rw [V_main_arg1]
  congr 1
  obtain ⟨e0, e1, e2⟩ := idx1 t
  funext a; apply Fin.ext
  match a with
  | ⟨0, _⟩ => show win0_1.index t (0 : Fin 3) * 1 + 1 * 0 = t.val / 4; omega
  | ⟨1, _⟩ => show win0_1.index t (1 : Fin 3) * 64 + 1 * q.val = q.val; omega
  | ⟨2, _⟩ => show win0_1.index t (2 : Fin 3) * 256 + 1 * d.val = d.val; omega

/-- The projection the kernel reads: the argument, whose cast is the identity here. -/
theorem projection (c : Dev nD) (t : Fin cfg0.N) (d : Fin 256) (k : Fin 2048) :
    iblk m c 2 t (ix2 d k) = m ((c : Thread nD τ).loc main_arg2) (ix2 d k) := by
  have hV : V m c main_call0_v0 = truncf (F := Ideal) .bf16 (m ((c : Thread nD τ).loc main_arg2)) bitsLt_bf16_f32 := by
    dsimp only [V, hostOps0]
    after_results
    rfl
  show V m c main_call0_v0 (((cfg0.win 2).blk t).view.emb (ix2 d k)) = _
  rw [hV]
  have he : ((cfg0.win 2).blk t).view.emb (ix2 d k) = ix2 d k := by
    obtain ⟨e0, e1⟩ := idx2 t
    funext a; apply Fin.ext
    match a with
    | ⟨0, _⟩ => show win0_2.index t (0 : Fin 2) * 256 + 1 * d.val = d.val; omega
    | ⟨1, _⟩ => show win0_2.index t (1 : Fin 2) * 2048 + 1 * k.val = k.val; omega
  rw [he]
  rfl

/-- The two scale vectors, each as the only row of its block. -/
theorem scale3 (c : Dev nD) (t : Fin cfg0.N) (d : Fin 256) :
    iblk m c 3 t (ix2 0 d) = m ((c : Thread nD τ).loc main_arg4) (ix1 d) := by
  have hV : V m c main_call0_v1 = shapeCast S1x256 (m ((c : Thread nD τ).loc main_arg4)) shapeCasts_S256_S1x256 := by
    dsimp only [V, hostOps0]
    after_results
    rfl
  show V m c main_call0_v1 (((cfg0.win 3).blk t).view.emb (ix2 0 d)) = _
  rw [hV]
  have he : ((cfg0.win 3).blk t).view.emb (ix2 0 d) = ix2 0 d := by
    obtain ⟨e0, e1⟩ := idx3 t
    funext a; apply Fin.ext
    match a with
    | ⟨0, _⟩ => show win0_3.index t (0 : Fin 2) * 1 + 1 * 0 = 0; omega
    | ⟨1, _⟩ => show win0_3.index t (1 : Fin 2) * 256 + 1 * d.val = d.val; omega
  rw [he]
  pointwise
theorem scale4 (c : Dev nD) (t : Fin cfg0.N) (d : Fin 256) :
    iblk m c 4 t (ix2 0 d) = m ((c : Thread nD τ).loc main_arg5) (ix1 d) := by
  have hV : V m c main_call0_v2 = shapeCast S1x256 (m ((c : Thread nD τ).loc main_arg5)) shapeCasts_S256_S1x256 := by
    dsimp only [V, hostOps0]
    after_results
    rfl
  show V m c main_call0_v2 (((cfg0.win 4).blk t).view.emb (ix2 0 d)) = _
  rw [hV]
  have he : ((cfg0.win 4).blk t).view.emb (ix2 0 d) = ix2 0 d := by
    obtain ⟨e0, e1⟩ := idx4 t
    funext a; apply Fin.ext
    match a with
    | ⟨0, _⟩ => show win0_4.index t (0 : Fin 2) * 1 + 1 * 0 = 0; omega
    | ⟨1, _⟩ => show win0_4.index t (1 : Fin 2) * 256 + 1 * d.val = d.val; omega
  rw [he]
  pointwise

/-- The kernel's scores of row `r` of batch entry `b`, of the argument arrays. -/
def rowScore (c : Dev nD) (b : Fin 2) (r : Fin 4096) (q : Fin 64) : EReal :=
  kernelScore (fun k => m ((c : Thread nD τ).loc main_arg0) (ix3 b r k))
    (fun d k => m ((c : Thread nD τ).loc main_arg2) (ix2 d k)) (fun d => m ((c : Thread nD τ).loc main_arg4) (ix1 d))
    (fun d => m ((c : Thread nD τ).loc main_arg1) (ix3 b q d)) (fun d => m ((c : Thread nD τ).loc main_arg5) (ix1 d))

/-- Column `l` of the block of scores at point `t`. -/
theorem column (c : Dev nD) (t : Fin cfg0.N) (l : Fin 1024) :
    col (k0_pay57 (grid0.coords t) (iblk m c 0 t) (iblk m c 1 t) (iblk m c 2 t) (iblk m c 3 t) (iblk m c 4 t)) l
      = filled ((line t l).val / 64) (rowScore m c (batch t) (line t l)) fillValue := by
  funext q
  show k0_pay57 (grid0.coords t) (iblk m c 0 t) (iblk m c 1 t) (iblk m c 2 t) (iblk m c 3 t) (iblk m c 4 t) (ix2 q l) = _
  rw [scores_apply, select_visible _ _ (grid0.coords t 1).isLt l.isLt]
  simp only [hidden, landmark, projection, scale3, scale4]
  rw [(coords t).2]
  rfl

/-- The grid point whose blocks hold row `r` of batch entry `b`. -/
def point (b : Fin 2) (r : Fin 4096) : Fin cfg0.N := ⟨4 * b.val + r.val / 1024, lt_of_lt_of_eq (b := 8) (by have := r.isLt; have := b.isLt; omega) N_0.symm⟩

theorem batch_point (b : Fin 2) (r : Fin 4096) : batch (point b r) = b := by
  apply Fin.ext; show (4 * b.val + r.val / 1024) / 4 = b.val; have := r.isLt; omega
theorem line_point (b : Fin 2) (r : Fin 4096) : line (point b r) ⟨r.val % 1024, Nat.mod_lt _ (by norm_num)⟩ = r := by
  apply Fin.ext; show 1024 * ((4 * b.val + r.val / 1024) % 4) + r.val % 1024 = r.val; have := r.isLt; omega

/-- Where row `l` of an output block sits in its array. -/
theorem emb5 (t : Fin cfg0.N) (l : Fin 1024) (j : Fin 32) :
    ((cfg0.win 5).blk t).view.emb (ix3 0 l j) = ix3 (batch t) (line t l) j := by
  obtain ⟨e0, e1, e2⟩ := idx5 t
  funext a; apply Fin.ext
  match a with
  | ⟨0, _⟩ => show win0_5.index t (0 : Fin 3) * 1 + 1 * 0 = t.val / 4; omega
  | ⟨1, _⟩ => show win0_5.index t (1 : Fin 3) * 1024 + 1 * l.val = 1024 * (t.val % 4) + l.val; omega
  | ⟨2, _⟩ => show win0_5.index t (2 : Fin 3) * 32 + 1 * j.val = j.val; omega
theorem emb6 (t : Fin cfg0.N) (l : Fin 1024) (j : Fin 32) :
    ((cfg0.win 6).blk t).view.emb (ix3 0 l j) = ix3 (batch t) (line t l) j := by
  obtain ⟨e0, e1, e2⟩ := idx6 t
  funext a; apply Fin.ext
  match a with
  | ⟨0, _⟩ => show win0_6.index t (0 : Fin 3) * 1 + 1 * 0 = t.val / 4; omega
  | ⟨1, _⟩ => show win0_6.index t (1 : Fin 3) * 1024 + 1 * l.val = 1024 * (t.val % 4) + l.val; omega
  | ⟨2, _⟩ => show win0_6.index t (2 : Fin 3) * 32 + 1 * j.val = j.val; omega

/-- THE ARRAY OF WEIGHTS after the run, at an entry. -/
theorem arr5_apply (c : Dev nD) (b : Fin 2) (r : Fin 4096) (j : Fin 32) :
    (dats m 0 c).arrAt 5 cfg0.N (ix3 b r j)
      = outW K T (filled (r.val / 64) (rowScore m c b r) fillValue) ⟨j.val % 8, Nat.mod_lt _ (by norm_num)⟩ := by
  have h := congrFun (Cert.KernelIdeal.Value.blocks5 m c (point b r) (flush0_5 _)) (ix3 0 ⟨r.val % 1024, Nat.mod_lt _ (by norm_num)⟩ j)
  rw [Cert.KernelIdeal.Value.flushed5] at h
  have h' : (dats m 0 c).arrAt 5 cfg0.N (((cfg0.win 5).blk (point b r)).view.emb (ix3 0 ⟨r.val % 1024, Nat.mod_lt _ (by norm_num)⟩ j))
      = out0_5 (grid0.coords (point b r)) (iblk m c 0 (point b r)) (iblk m c 1 (point b r)) (iblk m c 2 (point b r))
          (iblk m c 3 (point b r)) (iblk m c 4 (point b r)) (ix3 0 ⟨r.val % 1024, Nat.mod_lt _ (by norm_num)⟩ j) := h
  rw [emb5, batch_point, line_point, out5_apply, column, batch_point, line_point] at h'
  exact h'

/-- THE ARRAY OF INDICES after the run, at an entry. -/
theorem arr6_apply (c : Dev nD) (b : Fin 2) (r : Fin 4096) (j : Fin 32) :
    (dats m 0 c).arrAt 6 cfg0.N (ix3 b r j)
      = Ideal.fptosi 32 (outI K (filled (r.val / 64) (rowScore m c b r) fillValue) ⟨j.val % 8, Nat.mod_lt _ (by norm_num)⟩) := by
  have h := congrFun (Cert.KernelIdeal.Value.blocks6 m c (point b r) (flush0_6 _)) (ix3 0 ⟨r.val % 1024, Nat.mod_lt _ (by norm_num)⟩ j)
  rw [Cert.KernelIdeal.Value.flushed6] at h
  have h' : (dats m 0 c).arrAt 6 cfg0.N (((cfg0.win 6).blk (point b r)).view.emb (ix3 0 ⟨r.val % 1024, Nat.mod_lt _ (by norm_num)⟩ j))
      = out0_6 (grid0.coords (point b r)) (iblk m c 0 (point b r)) (iblk m c 1 (point b r)) (iblk m c 2 (point b r))
          (iblk m c 3 (point b r)) (iblk m c 4 (point b r)) (ix3 0 ⟨r.val % 1024, Nat.mod_lt _ (by norm_num)⟩ j) := h
  rw [emb6, batch_point, line_point, out6_apply, column, batch_point, line_point] at h'
  exact h'

end KernelIdeal

end Cert.Proof.Column

end
-- ==== Proof.NamedArrays.lean ====
/- The same two result arrays of the kernel whose mask constant is named minus infinity. -/
module

public import proofs.«01_k».proof.Proof.Block
public import proofs.«01_k».proof.Proof.Visible
public import proofs.«01_k».proof.Proof.Gen.KernelNamed.Value

@[expose] public section

set_option maxRecDepth 16384

noncomputable section

open Idealize.ShloMosaic Idealize.ShloMosaic.TcCoe Idealize.SL.Sem
open scoped Classical

namespace Cert.Proof.Column

section KernelNamed
open Cert.KernelNamed Cert.KernelNamed.Gen

variable (m : (ℓ : Loc nD τ sig) → Buf (Elt Ideal) ℓ)

/-- The grid point `t` is the batch entry `t / 4` and the block of rows `t % 4`. -/
theorem named_coords : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

/-- Where the windows' blocks sit. -/
theorem named_idx0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, win0_0.index t (0 : Fin 3) = t.val / 4 ∧ win0_0.index t (1 : Fin 3) = t.val % 4
    ∧ win0_0.index t (2 : Fin 3) = 0)
theorem named_idx1 : ∀ t : Fin cfg0.N, win0_1.index t (0 : Fin 3) = t.val / 4 ∧ win0_1.index t (1 : Fin 3) = 0
    ∧ win0_1.index t (2 : Fin 3) = 0 :=
  (by decide +kernel : ∀ t : Fin grid0.N, win0_1.index t (0 : Fin 3) = t.val / 4 ∧ win0_1.index t (1 : Fin 3) = 0
    ∧ win0_1.index t (2 : Fin 3) = 0)
theorem named_idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem named_idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem named_idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem named_idx5 : ∀ t : Fin cfg0.N, win0_5.index t (0 : Fin 3) = t.val / 4 ∧ win0_5.index t (1 : Fin 3) = t.val % 4
    ∧ win0_5.index t (2 : Fin 3) = 0 :=
  (by decide +kernel : ∀ t : Fin grid0.N, win0_5.index t (0 : Fin 3) = t.val / 4 ∧ win0_5.index t (1 : Fin 3) = t.val % 4
    ∧ win0_5.index t (2 : Fin 3) = 0)
theorem named_idx6 : ∀ t : Fin cfg0.N, win0_6.index t (0 : Fin 3) = t.val / 4 ∧ win0_6.index t (1 : Fin 3) = t.val % 4
    ∧ win0_6.index t (2 : Fin 3) = 0 :=
  (by decide +kernel : ∀ t : Fin grid0.N, win0_6.index t (0 : Fin 3) = t.val / 4 ∧ win0_6.index t (1 : Fin 3) = t.val % 4
    ∧ win0_6.index t (2 : Fin 3) = 0)

/-- The batch entry and the row of the arrays that row `l` of the blocks at point `t` is. -/
def named_batch (t : Fin cfg0.N) : Fin 2 := ⟨t.val / 4, by have h : t.val < 8 := lt_of_lt_of_eq t.isLt N_0; omega⟩
def named_line (t : Fin cfg0.N) (l : Fin 1024) : Fin 4096 := ⟨1024 * (t.val % 4) + l.val, by have := l.isLt; omega⟩

/-- The block of hidden states. -/
theorem named_hidden (c : Dev nD) (t : Fin cfg0.N) (l : Fin 1024) (k : Fin 2048) :
    iblk m c 0 t (ix3 0 l k) = m ((c : Thread nD τ).loc main_arg0) (ix3 (named_batch t) (named_line t l) k) := by
  show V m c main_arg0 (((cfg0.win 0).blk t).view.emb (ix3 0 l k)) = _
  rw [V_main_arg0]
  congr 1
  obtain ⟨e0, e1, e2⟩ := named_idx0 t
  funext a; apply Fin.ext
  match a with
  | ⟨0, _⟩ => show win0_0.index t (0 : Fin 3) * 1 + 1 * 0 = t.val / 4; omega
  | ⟨1, _⟩ => show win0_0.index t (1 : Fin 3) * 1024 + 1 * l.val = 1024 * (t.val % 4) + l.val; omega
  | ⟨2, _⟩ => show win0_0.index t (2 : Fin 3) * 2048 + 1 * k.val = k.val; omega

/-- The block of landmarks. -/
theorem named_landmark (c : Dev nD) (t : Fin cfg0.N) (q : Fin 64) (d : Fin 256) :
    iblk m c 1 t (ix3 0 q d) = m ((c : Thread nD τ).loc main_arg1) (ix3 (named_batch t) q d) := by
  show V m c main_arg1 (((cfg0.win 1).blk t).view.emb (ix3 0 q d)) = _
  rw [V_main_arg1]
  congr 1
  obtain ⟨e0, e1, e2⟩ := named_idx1 t
  funext a; apply Fin.ext
  match a with
  | ⟨0, _⟩ => show win0_1.index t (0 : Fin 3) * 1 + 1 * 0 = t.val / 4; omega
  | ⟨1, _⟩ => show win0_1.index t (1 : Fin 3) * 64 + 1 * q.val = q.val; omega
  | ⟨2, _⟩ => show win0_1.index t (2 : Fin 3) * 256 + 1 * d.val = d.val; omega

/-- The projection the kernel reads: the argument, whose cast is the identity here. -/
theorem named_projection (c : Dev nD) (t : Fin cfg0.N) (d : Fin 256) (k : Fin 2048) :
    iblk m c 2 t (ix2 d k) = m ((c : Thread nD τ).loc main_arg2) (ix2 d k) := by
  have hV : V m c main_call0_v0 = truncf (F := Ideal) .bf16 (m ((c : Thread nD τ).loc main_arg2)) bitsLt_bf16_f32 := by
    dsimp only [V, hostOps0]
    after_results
    rfl
  show V m c main_call0_v0 (((cfg0.win 2).blk t).view.emb (ix2 d k)) = _
  rw [hV]
  have he : ((cfg0.win 2).blk t).view.emb (ix2 d k) = ix2 d k := by
    obtain ⟨e0, e1⟩ := named_idx2 t
    funext a; apply Fin.ext
    match a with
    | ⟨0, _⟩ => show win0_2.index t (0 : Fin 2) * 256 + 1 * d.val = d.val; omega
    | ⟨1, _⟩ => show win0_2.index t (1 : Fin 2) * 2048 + 1 * k.val = k.val; omega
  rw [he]
  rfl

/-- The two scale vectors, each as the only row of its block. -/
theorem named_scale3 (c : Dev nD) (t : Fin cfg0.N) (d : Fin 256) :
    iblk m c 3 t (ix2 0 d) = m ((c : Thread nD τ).loc main_arg4) (ix1 d) := by
  have hV : V m c main_call0_v1 = shapeCast S1x256 (m ((c : Thread nD τ).loc main_arg4)) shapeCasts_S256_S1x256 := by
    dsimp only [V, hostOps0]
    after_results
    rfl
  show V m c main_call0_v1 (((cfg0.win 3).blk t).view.emb (ix2 0 d)) = _
  rw [hV]
  have he : ((cfg0.win 3).blk t).view.emb (ix2 0 d) = ix2 0 d := by
    obtain ⟨e0, e1⟩ := named_idx3 t
    funext a; apply Fin.ext
    match a with
    | ⟨0, _⟩ => show win0_3.index t (0 : Fin 2) * 1 + 1 * 0 = 0; omega
    | ⟨1, _⟩ => show win0_3.index t (1 : Fin 2) * 256 + 1 * d.val = d.val; omega
  rw [he]
  pointwise
theorem named_scale4 (c : Dev nD) (t : Fin cfg0.N) (d : Fin 256) :
    iblk m c 4 t (ix2 0 d) = m ((c : Thread nD τ).loc main_arg5) (ix1 d) := by
  have hV : V m c main_call0_v2 = shapeCast S1x256 (m ((c : Thread nD τ).loc main_arg5)) shapeCasts_S256_S1x256 := by
    dsimp only [V, hostOps0]
    after_results
    rfl
  show V m c main_call0_v2 (((cfg0.win 4).blk t).view.emb (ix2 0 d)) = _
  rw [hV]
  have he : ((cfg0.win 4).blk t).view.emb (ix2 0 d) = ix2 0 d := by
    obtain ⟨e0, e1⟩ := named_idx4 t
    funext a; apply Fin.ext
    match a with
    | ⟨0, _⟩ => show win0_4.index t (0 : Fin 2) * 1 + 1 * 0 = 0; omega
    | ⟨1, _⟩ => show win0_4.index t (1 : Fin 2) * 256 + 1 * d.val = d.val; omega
  rw [he]
  pointwise

/-- The kernel's scores of row `r` of batch entry `b`, of the argument arrays. -/
def named_rowScore (c : Dev nD) (b : Fin 2) (r : Fin 4096) (q : Fin 64) : EReal :=
  kernelScore (fun k => m ((c : Thread nD τ).loc main_arg0) (ix3 b r k))
    (fun d k => m ((c : Thread nD τ).loc main_arg2) (ix2 d k)) (fun d => m ((c : Thread nD τ).loc main_arg4) (ix1 d))
    (fun d => m ((c : Thread nD τ).loc main_arg1) (ix3 b q d)) (fun d => m ((c : Thread nD τ).loc main_arg5) (ix1 d))

/-- Column `l` of the block of scores at point `t`. -/
theorem named_column (c : Dev nD) (t : Fin cfg0.N) (l : Fin 1024) :
    col (k0_pay57 (grid0.coords t) (iblk m c 0 t) (iblk m c 1 t) (iblk m c 2 t) (iblk m c 3 t) (iblk m c 4 t)) l
      = masked ((named_line t l).val / 64) (named_rowScore m c (named_batch t) (named_line t l)) := by
  funext q
  show k0_pay57 (grid0.coords t) (iblk m c 0 t) (iblk m c 1 t) (iblk m c 2 t) (iblk m c 3 t) (iblk m c 4 t) (ix2 q l) = _
  rw [named_scores_apply, select_visible _ _ (grid0.coords t 1).isLt l.isLt]
  simp only [named_hidden, named_landmark, named_projection, named_scale3, named_scale4]
  rw [(named_coords t).2]
  rfl

/-- The grid point whose blocks hold row `r` of batch entry `b`. -/
def named_point (b : Fin 2) (r : Fin 4096) : Fin cfg0.N := ⟨4 * b.val + r.val / 1024, lt_of_lt_of_eq (b := 8) (by have := r.isLt; have := b.isLt; omega) N_0.symm⟩

theorem named_batch_point (b : Fin 2) (r : Fin 4096) : named_batch (named_point b r) = b := by
  apply Fin.ext; show (4 * b.val + r.val / 1024) / 4 = b.val; have := r.isLt; omega
theorem named_line_point (b : Fin 2) (r : Fin 4096) : named_line (named_point b r) ⟨r.val % 1024, Nat.mod_lt _ (by norm_num)⟩ = r := by
  apply Fin.ext; show 1024 * ((4 * b.val + r.val / 1024) % 4) + r.val % 1024 = r.val; have := r.isLt; omega

/-- Where row `l` of an output block sits in its array. -/
theorem named_emb5 (t : Fin cfg0.N) (l : Fin 1024) (j : Fin 32) :
    ((cfg0.win 5).blk t).view.emb (ix3 0 l j) = ix3 (named_batch t) (named_line t l) j := by
  obtain ⟨e0, e1, e2⟩ := named_idx5 t
  funext a; apply Fin.ext
  match a with
  | ⟨0, _⟩ => show win0_5.index t (0 : Fin 3) * 1 + 1 * 0 = t.val / 4; omega
  | ⟨1, _⟩ => show win0_5.index t (1 : Fin 3) * 1024 + 1 * l.val = 1024 * (t.val % 4) + l.val; omega
  | ⟨2, _⟩ => show win0_5.index t (2 : Fin 3) * 32 + 1 * j.val = j.val; omega
theorem named_emb6 (t : Fin cfg0.N) (l : Fin 1024) (j : Fin 32) :
    ((cfg0.win 6).blk t).view.emb (ix3 0 l j) = ix3 (named_batch t) (named_line t l) j := by
  obtain ⟨e0, e1, e2⟩ := named_idx6 t
  funext a; apply Fin.ext
  match a with
  | ⟨0, _⟩ => show win0_6.index t (0 : Fin 3) * 1 + 1 * 0 = t.val / 4; omega
  | ⟨1, _⟩ => show win0_6.index t (1 : Fin 3) * 1024 + 1 * l.val = 1024 * (t.val % 4) + l.val; omega
  | ⟨2, _⟩ => show win0_6.index t (2 : Fin 3) * 32 + 1 * j.val = j.val; omega

/-- THE ARRAY OF WEIGHTS after the run, at an entry. -/
theorem named_arr5_apply (c : Dev nD) (b : Fin 2) (r : Fin 4096) (j : Fin 32) :
    (dats m 0 c).arrAt 5 cfg0.N (ix3 b r j)
      = outW K T (masked (r.val / 64) (named_rowScore m c b r)) ⟨j.val % 8, Nat.mod_lt _ (by norm_num)⟩ := by
  have h := congrFun (Cert.KernelNamed.Value.blocks5 m c (named_point b r) (flush0_5 _)) (ix3 0 ⟨r.val % 1024, Nat.mod_lt _ (by norm_num)⟩ j)
  rw [Cert.KernelNamed.Value.flushed5] at h
  have h' : (dats m 0 c).arrAt 5 cfg0.N (((cfg0.win 5).blk (named_point b r)).view.emb (ix3 0 ⟨r.val % 1024, Nat.mod_lt _ (by norm_num)⟩ j))
      = out0_5 (grid0.coords (named_point b r)) (iblk m c 0 (named_point b r)) (iblk m c 1 (named_point b r)) (iblk m c 2 (named_point b r))
          (iblk m c 3 (named_point b r)) (iblk m c 4 (named_point b r)) (ix3 0 ⟨r.val % 1024, Nat.mod_lt _ (by norm_num)⟩ j) := h
  rw [named_emb5, named_batch_point, named_line_point, named_out5_apply, named_column, named_batch_point, named_line_point] at h'
  exact h'

/-- THE ARRAY OF INDICES after the run, at an entry. -/
theorem named_arr6_apply (c : Dev nD) (b : Fin 2) (r : Fin 4096) (j : Fin 32) :
    (dats m 0 c).arrAt 6 cfg0.N (ix3 b r j)
      = Ideal.fptosi 32 (outI K (masked (r.val / 64) (named_rowScore m c b r)) ⟨j.val % 8, Nat.mod_lt _ (by norm_num)⟩) := by
  have h := congrFun (Cert.KernelNamed.Value.blocks6 m c (named_point b r) (flush0_6 _)) (ix3 0 ⟨r.val % 1024, Nat.mod_lt _ (by norm_num)⟩ j)
  rw [Cert.KernelNamed.Value.flushed6] at h
  have h' : (dats m 0 c).arrAt 6 cfg0.N (((cfg0.win 6).blk (named_point b r)).view.emb (ix3 0 ⟨r.val % 1024, Nat.mod_lt _ (by norm_num)⟩ j))
      = out0_6 (grid0.coords (named_point b r)) (iblk m c 0 (named_point b r)) (iblk m c 1 (named_point b r)) (iblk m c 2 (named_point b r))
          (iblk m c 3 (named_point b r)) (iblk m c 4 (named_point b r)) (ix3 0 ⟨r.val % 1024, Nat.mod_lt _ (by norm_num)⟩ j) := h
  rw [named_emb6, named_batch_point, named_line_point, named_out6_apply, named_column, named_batch_point, named_line_point] at h'
  exact h'

end KernelNamed

end Cert.Proof.Column

end
-- ==== Proof.RefScore.lean ====
/- The reference's masked scores at an entry: the score of the chunk for the row where the chunk is visible, else `⊥`. -/
module

public import proofs.«01_k».proof.Proof.Score
public import proofs.«01_k».proof.Proof.Gen.ReferenceIdeal.Read
public import Idealize.ShloMosaic.Lib.Pointwise
public import Idealize.ShloMosaic.Lib.WordCmp

@[expose] public section

set_option maxRecDepth 16384

noncomputable section

open Idealize.ShloMosaic
open scoped Classical

namespace Cert.Proof.Ref

open Cert.ReferenceIdeal Cert.ReferenceIdeal.Read

variable (x0 : FVec Ideal S2x4096x2048 .f32) (x1 : FVec Ideal S2x64x256 .f32) (x2 : FVec Ideal S256x2048 .f32)
  (x3 : FVec Ideal S2048 .f32) (x4 x5 : FVec Ideal S256 .f32)

/-- The score of chunk `c` for row `r` of batch `b`, from the arguments. -/
def argScore (b : Fin 2) (r : Fin 4096) (c : Fin 64) : EReal :=
  score (fun k => x0 (ix3 b r k)) (fun d k => x2 (ix2 d k)) (fun k => x3 (ix1 k)) (fun d => x4 (ix1 d))
    (fun d => x1 (ix3 b c d)) (fun d => x5 (ix1 d))

theorem scores_apply (b : Fin 2) (r : Fin 4096) (c : Fin 64) :
    val_main_v43 (F := Ideal) x0 x1 x2 x3 x4 x5 (ix3 b r c) = argScore x0 x1 x2 x3 x4 x5 b r c := by
  unfold val_main_v43 val_main_v42 val_main_cst_8 val_main_v41 val_main_v40 val_main_v39 val_main_v38 val_main_v37 val_main_v36 val_main_v35 val_main_v34 val_main_v33 val_main_cst_7 val_main_v32 val_main_v31 val_main_cst_6 val_main_v30 val_main_v29 val_main_cst_5 val_main_v28 val_main_v27 val_main_v26 val_main_v25 val_main_v24 val_main_v23 val_main_v22 val_main_v21 val_main_v20 val_main_cst_4 val_main_v19 val_main_v18 val_main_cst_3 val_main_v17 val_main_v16 val_main_cst_2 val_main_v15 val_main_v14 val_main_v13 val_main_v12 val_main_v11 val_main_v10 val_main_v9 val_main_v8 val_main_v7 val_main_v6 val_main_v5 val_main_cst_1 val_main_v4 val_main_v3 val_main_cst_0 val_main_v2 val_main_v1 val_main_cst val_main_v0
  pointwise
  rfl

/-- The bit that shows a chunk: row `r` does not come before the end of chunk `c`. -/
theorem visible_apply (b : Fin 2) (r : Fin 4096) (c : Fin 64) :
    val_main_call0_v1 (F := Ideal) (ix3 b r c) = BitVec.ofBool (decide ((c.val + 1) * 64 ≤ r.val)) := by
  unfold val_main_call0_v1 val_main_v54 val_main_v53 val_main_v52 val_main_v51 val_main_v50 val_main_v49 val_main_c_9 val_main_v48 val_main_v47 val_main_c val_main_v46 val_main_v45 val_main_v44
  pointwise
  have hw : IntOp.muli (IntOp.addi (BitVec.ofNat 32 c.val) 1#32) 64#32 = BitVec.ofNat 32 ((c.val + 1) * 64) := by
    clear b r; revert c; decide
  rw [hw, WordCmp.cmpi_sge_ofNat (by norm_num; omega) (by norm_num; omega)]

/-- The masked scores at an entry. -/
theorem masked_apply (b : Fin 2) (r : Fin 4096) (c : Fin 64) :
    val_main_v55 (F := Ideal) x0 x1 x2 x3 x4 x5 (ix3 b r c)
      = masked (r.val / 64) (argScore x0 x1 x2 x3 x4 x5 b r) c := by
  have h : val_main_v55 (F := Ideal) x0 x1 x2 x3 x4 x5 (ix3 b r c)
      = Scalar.select (val_main_call0_v1 (F := Ideal) (ix3 b r c)) (val_main_v43 (F := Ideal) x0 x1 x2 x3 x4 x5 (ix3 b r c))
          (Ideal.ofBits .f32 0xFF800000#32) := rfl
  rw [h, visible_apply, scores_apply]
  have hb : Ideal.ofBits .f32 0xFF800000#32 = ⊥ := by simp [Ideal.ofBits, Ideal.ieee]
  rw [hb]
  unfold masked Scalar.select
  by_cases hv : c.val < r.val / 64
  · rw [if_pos hv, if_pos]
    have : (c.val + 1) * 64 ≤ r.val := by omega
    simp [this]
  · rw [if_neg hv, if_neg]
    have : ¬ (c.val + 1) * 64 ≤ r.val := by omega
    simp [this]

end Cert.Proof.Ref
-- ==== Proof.Sorting.lean ====
/- What the two sorts of a row do, as facts about positions: the stable sort by decreasing value, and the sort of the first
   eight positions by their words. -/
module

public import proofs.«01_k».proof.Proof.Order
public import Idealize.ShloMosaic.Lib.SortPrefix
public import Idealize.ShloMosaic.Lib.WordCmp

@[expose] public section

noncomputable section

open Idealize.ShloMosaic
open scoped Classical

namespace Cert.Proof

variable {n : ℕ}

/-- A position of a row comes before another: a greater value, or the same value and an earlier position. -/
def before (r : Fin n → EReal) (k k' : Fin n) : Bool := decide (r k' < r k ∨ (r k' = r k ∧ k < k'))

theorem cmpfTotal_gt (x y : Ideal .f32) : (FloatOps.cmpfTotal .gt x y == 1#1) = decide ((y : EReal) < x) := by
  show (Ideal.cmp .ogt x y == 1#1) = _
  unfold Ideal.cmp
  by_cases h : (y : EReal) < x <;> simp [h]

/-- On a list of increasing positions the sort by value alone is the sort by value and position. -/
theorem stableSort_before (r : Fin n → EReal) (l : List (Fin n)) (hl : l.Pairwise (· < ·)) :
    stableSort (fun k k' => decide (r k' < r k)) l = stableSort (before r) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have hab := hl.1 b hb'
    unfold before
    refine decide_eq_decide.2 ⟨Or.inl, ?_⟩
    rintro (h | ⟨_, h⟩)
    · exact h
    · exact absurd h (not_lt.2 hab.le)

theorem sortedFrom_of_positions {R R' : Fin n → Fin n → Bool} (h : sortPositions n R = sortPositions n R') (k : Fin n) :
    sortedFrom R k = sortedFrom R' k := by
  unfold sortedFrom
  simp only [List.get_eq_getElem]
  exact List.getElem_of_eq h _

/-- The positions of a row in decreasing order of value. -/
def decreasing (r : Fin n → EReal) (k : Fin n) : Fin n :=
  sortedFrom (fun k k' => FloatOps.cmpfTotal (F := Ideal) (φ := .f32) .gt (r k) (r k') == 1#1) k

theorem decreasing_injective (r : Fin n → EReal) : Function.Injective (decreasing r) := sortedFrom_injective _

theorem decreasing_surjective (r : Fin n → EReal) : Function.Surjective (decreasing r) := sortedFrom_surjective _

theorem decreasing_lt (r : Fin n → EReal) (i j : Fin n) (hij : i < j) :
    r (decreasing r j) < r (decreasing r i) ∨ (r (decreasing r j) = r (decreasing r i) ∧ decreasing r i < decreasing r j) := by
  have hR : (fun k k' => FloatOps.cmpfTotal (F := Ideal) (φ := .f32) .gt (r k) (r k') == 1#1)
      = fun k k' : Fin n => decide (r k' < r k) := by
    funext k k'; rw [cmpfTotal_gt]
  have hs : sortPositions n (fun k k' => FloatOps.cmpfTotal (F := Ideal) (φ := .f32) .gt (r k) (r k') == 1#1)
      = sortPositions n (before r) := by
    rw [hR]
    exact stableSort_before r _ (List.pairwise_lt_finRange n)
  have he : ∀ k, decreasing r k = sortedFrom (before r) k := by
    exact fun k => sortedFrom_of_positions hs k
  have hn := sortedFrom_noInversion (before r) (before r) ?_ (fun _ _ h => h) ?_ i j hij
  · rw [← he, ← he] at hn
    have hne : decreasing r i ≠ decreasing r j := fun h => hij.ne (decreasing_injective r h)
    unfold before at hn
    rw [decide_eq_false_iff_not, not_or] at hn
    rcases lt_trichotomy (r (decreasing r j)) (r (decreasing r i)) with h | h | h
    · exact Or.inl h
    · refine Or.inr ⟨h, lt_of_le_of_ne (not_lt.1 fun hlt => hn.2 ⟨h.symm, hlt⟩) hne⟩
    · exact absurd h hn.1
  · intro a b h
    unfold before at h ⊢
    rw [decide_eq_true_iff] at h
    rw [decide_eq_false_iff_not]
    rintro (h' | ⟨h', hp⟩) <;> rcases h with h | ⟨h, hq⟩
    · exact lt_asymm h h'
    · exact h'.ne h.symm
    · exact h.ne h'.symm
    · exact lt_asymm hp hq
  · intro a b c hab hbc
    unfold before at *
    rw [decide_eq_false_iff_not] at *
    rw [not_or, not_lt, not_and, not_lt] at *
    refine ⟨hab.1.trans hbc.1, fun h => ?_⟩
    have h1 : r b = r a := le_antisymm (by rw [← h]; exact hbc.1) hab.1
    have h2 : r c = r b := by rw [h, h1]
    exact (hbc.2 h2).trans (hab.2 h1)

/-- The first eight positions of that order. -/
def chosen (r : Fin 64 → EReal) (i : Fin 8) : Fin 64 := decreasing r (i.castLE (by norm_num))

theorem listed_chosen (r : Fin 64 → EReal) : Listed r (chosen r) where
  inj := fun _ _ h => Fin.castLE_injective _ (decreasing_injective r h)
  ordered := fun i j h => decreasing_lt r _ _ ((Fin.castLE_lt_castLE_iff _).2 h)
  rest := by
    intro c hc i
    obtain ⟨k, hk⟩ := decreasing_surjective r c
    have hlt : 8 ≤ k.val := by
      by_contra h
      refine hc ⟨k.val, by omega⟩ ?_
      unfold chosen
      rw [show Fin.castLE (by norm_num) (⟨k.val, by omega⟩ : Fin 8) = k from Fin.ext rfl]
      exact hk
    rw [← hk]
    exact decreasing_lt r _ _ (Fin.lt_def.2 (lt_of_lt_of_le i.isLt hlt))

/-- The order of eight positions by their words. -/
def wordOrder (σ : Fin 8 → Fin 64) (q : Fin 8) : Fin 8 :=
  sortedFrom (fun k k' => IntOp.cmpi .slt (BitVec.ofNat 32 (σ k).val) (BitVec.ofNat 32 (σ k').val) == 1#1) q

/-- Eight positions in increasing order. -/
def increasing (σ : Fin 8 → Fin 64) (q : Fin 8) : Fin 64 := σ (wordOrder σ q)

theorem resorted_increasing (σ : Fin 8 → Fin 64) (hσ : Function.Injective σ) : Resorted σ (increasing σ) where
  mono := by
    intro i j hij
    have hR : (fun k k' => IntOp.cmpi .slt (BitVec.ofNat 32 (σ k).val) (BitVec.ofNat 32 (σ k').val) == 1#1)
        = fun k k' : Fin 8 => decide (σ k < σ k') := by
      funext k k'
      rw [WordCmp.cmpi_slt_ofNat (by norm_num; omega) (by norm_num; omega)]
      by_cases h : σ k < σ k' <;> simp [h]
    have hn := sortedFrom_noInversion (fun k k' : Fin 8 => decide (σ k < σ k')) (fun k k' : Fin 8 => decide (σ k < σ k'))
      (fun a b h => by simp only [decide_eq_true_eq, decide_eq_false_iff_not] at *; exact not_lt.2 h.le) (fun _ _ h => h)
      (fun a b c h h' => by simp only [decide_eq_false_iff_not, not_lt] at *; exact h'.trans h) i j hij
    rw [← hR] at hn
    have hn' : ¬ increasing σ j < increasing σ i := by
      have := congrFun (congrFun hR (wordOrder σ j)) (wordOrder σ i)
      simp only [decide_eq_false_iff_not] at hn
      exact hn
    refine lt_of_le_of_ne (not_lt.1 hn') fun h => hij.ne (sortedFrom_injective _ (hσ h))
  listed := fun q => ⟨wordOrder σ q, rfl⟩
  found := by
    intro i
    obtain ⟨q, hq⟩ := sortedFrom_surjective
      (fun k k' => IntOp.cmpi .slt (BitVec.ofNat 32 (σ k).val) (BitVec.ofNat 32 (σ k').val) == 1#1) i
    exact ⟨q, congrArg σ hq⟩

end Cert.Proof
-- ==== Proof.RefRead.lean ====
/- The reference's results at an entry, as functions of the row of masked scores. -/
module

public import proofs.«01_k».proof.Proof.RefScore
public import proofs.«01_k».proof.Proof.Sorting
public import Idealize.ShloMosaic.Lib.ReduceAll

@[expose] public section

set_option maxRecDepth 16384

noncomputable section

open Idealize.ShloMosaic
open scoped Classical

namespace Cert.Proof.Ref

open Cert.ReferenceIdeal Cert.ReferenceIdeal.Read

/-! ## The selection, the sort and the gather read at an entry -/

theorem along64 (b : Fin 2) (r : Fin 4096) (c k : Fin 64) (h : 2 < S2x4096x64.rank) :
    Shape.Idx.along (s := S2x4096x64) (ix3 b r c) ⟨2, h⟩ k = ix3 b r k := by
  funext a
  unfold Shape.Idx.along
  fin_cases a <;> rfl

theorem along8 (b : Fin 2) (r : Fin 4096) (c k : Fin 8) (h : 2 < S2x4096x8.rank) :
    Shape.Idx.along (s := S2x4096x8) (ix3 b r c) ⟨2, h⟩ k = ix3 b r k := by
  funext a
  unfold Shape.Idx.along
  fin_cases a <;> rfl

theorem sort2_snd {s : Shape} {α β : Type} (d : ℕ) (hd : d < s.rank) (cmp : α × β → α × β → BitVec 1) (x : s.Idx → α)
    (y : s.Idx → β) (j : s.Idx) :
    (Host.sort2 s d cmp x y).2 j
      = y (j.along ⟨d, hd⟩ (sortedFrom (fun k k' => cmp (x (j.along ⟨d, hd⟩ k), y (j.along ⟨d, hd⟩ k))
          (x (j.along ⟨d, hd⟩ k'), y (j.along ⟨d, hd⟩ k')) == 1#1) (j ⟨d, hd⟩))) := by
  unfold Host.sort2
  rw [dif_pos hd]

theorem sort_eq {s : Shape} {α : Type} (d : ℕ) (hd : d < s.rank) (cmp : α → α → BitVec 1) (x : s.Idx → α) (j : s.Idx) :
    Host.sort s d cmp x j
      = x (j.along ⟨d, hd⟩ (sortedFrom (fun k k' => cmp (x (j.along ⟨d, hd⟩ k)) (x (j.along ⟨d, hd⟩ k')) == 1#1)
          (j ⟨d, hd⟩))) := by
  unfold Host.sort
  rw [dif_pos hd]

/-- The sort of a row of scores with its positions: the positions, in decreasing order of score. -/
theorem sort2_apply (X : FVec Ideal S2x4096x64 .f32) (b : Fin 2) (r : Fin 4096) (k : Fin 64) :
    (Host.sort2 S2x4096x64 2 (fun l r : Ideal .f32 × BitVec 32 => FloatOps.cmpfTotal .gt l.1 r.1) X
      (fun i => if hd : 2 < S2x4096x64.rank then iotaInDim S2x4096x64 32 ⟨2, hd⟩ i else 0#32)).2 (ix3 b r k)
      = BitVec.ofNat 32 (decreasing (fun c => X (ix3 b r c)) k).val := by
  have h : 2 < S2x4096x64.rank := by decide
  rw [sort2_snd 2 h]
  have hR : (fun k₁ k₂ : Fin 64 => FloatOps.cmpfTotal (F := Ideal) (φ := .f32) .gt
      (X (Shape.Idx.along (s := S2x4096x64) (ix3 b r k) ⟨2, h⟩ k₁))
      (X (Shape.Idx.along (s := S2x4096x64) (ix3 b r k) ⟨2, h⟩ k₂)) == 1#1)
      = fun k₁ k₂ => FloatOps.cmpfTotal (F := Ideal) (φ := .f32) .gt (X (ix3 b r k₁)) (X (ix3 b r k₂)) == 1#1 := by
    funext k₁ k₂
    rw [along64, along64]
  have hp : sortedFrom (fun k₁ k₂ : Fin 64 => FloatOps.cmpfTotal (F := Ideal) (φ := .f32) .gt
      (X (Shape.Idx.along (s := S2x4096x64) (ix3 b r k) ⟨2, h⟩ k₁))
      (X (Shape.Idx.along (s := S2x4096x64) (ix3 b r k) ⟨2, h⟩ k₂)) == 1#1) k
      = decreasing (fun c => X (ix3 b r c)) k := by
    unfold decreasing
    rw [hR]
  have hy : ∀ p : Fin 64, (fun i => if hd : 2 < S2x4096x64.rank then iotaInDim S2x4096x64 32 ⟨2, hd⟩ i else 0#32)
      (Shape.Idx.along (s := S2x4096x64) (ix3 b r k) ⟨2, h⟩ p) = BitVec.ofNat 32 p.val := by
    intro p
    dsimp only
    rw [along64, dif_pos h]
    rfl
  rw [← hp]
  exact hy _

/-- The positions the selection of the eight greatest lists for a row. -/
theorem topK_apply (X : FVec Ideal S2x4096x64 .f32) (h : S2x4096x64.Slices (fun _ => 0) S2x4096x8) (b : Fin 2) (r : Fin 4096)
    (i : Fin 8) :
    (Host.topK S2x4096x8 2 (FloatOps.cmpfTotal .gt) X h).2 (ix3 b r i)
      = BitVec.ofNat 32 (chosen (fun c => X (ix3 b r c)) i).val := by
  unfold chosen
  rw [← sort2_apply]
  unfold Host.topK
  dsimp only
  generalize (Host.sort2 S2x4096x64 2 (fun l r : Ideal .f32 × BitVec 32 => FloatOps.cmpfTotal .gt l.1 r.1) X
      (fun i => if hd : 2 < S2x4096x64.rank then iotaInDim S2x4096x64 32 ⟨2, hd⟩ i else 0#32)).2 = Y
  pointwise
  rfl

/-- The sort of a row of words. -/
theorem sort_apply (I : IVec S2x4096x8 32) (b : Fin 2) (r : Fin 4096) (q : Fin 8) :
    Host.sort S2x4096x8 2 comparator_i32_d2 I (ix3 b r q)
      = I (ix3 b r (sortedFrom (fun k k' => IntOp.cmpi .slt (I (ix3 b r k)) (I (ix3 b r k')) == 1#1) q)) := by
  have h : 2 < S2x4096x8.rank := by decide
  rw [sort_eq 2 h]
  have hR : (fun k₁ k₂ : Fin 8 => comparator_i32_d2 (I (Shape.Idx.along (s := S2x4096x8) (ix3 b r q) ⟨2, h⟩ k₁))
      (I (Shape.Idx.along (s := S2x4096x8) (ix3 b r q) ⟨2, h⟩ k₂)) == 1#1)
      = fun k k' => IntOp.cmpi .slt (I (ix3 b r k)) (I (ix3 b r k')) == 1#1 := by
    funext k₁ k₂
    rw [along8, along8]
    rfl
  rw [← hR]
  exact congrArg I (along8 b r q _ h)

/-- The gather along a row, at a position in range. -/
theorem gather_apply (X : FVec Ideal S2x4096x64 .f32) (I : IVec S2x4096x8x1 32) (b : Fin 2) (r : Fin 4096) (q : Fin 8)
    (p : Fin 64) (hp : I (ix4 b r q 0) = BitVec.ofNat 32 p.val) :
    Host.gather gather_S2x4096x64_S2x4096x8x1_S2x4096x8_n_2_01_01_2_3_111 X I (ix3 b r q) = X (ix3 b r p) := by
  unfold Host.gather
  congr 1
  funext a
  refine Fin.ext ?_
  generalize hd : gather_S2x4096x64_S2x4096x8x1_S2x4096x8_n_2_01_01_2_3_111 = d
  show d.start (ix3 b r q) I a + d.batchCoord (ix3 b r q) a + d.offCoord (ix3 b r q) a = _
  have hs : d.sKept = [] := by subst hd; decide
  have hoff : d.offCoord (ix3 b r q) a = 0 := by
    apply GatherDims.offCoord_eq_zero
    rw [hs]; exact List.not_mem_nil
  rw [hoff, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  subst hd
  rcases ha with rfl | rfl | rfl
  · rw [GatherDims.start_batching _ _ _ _ (by decide), Nat.zero_add]
    unfold GatherDims.batchCoord
    rw [dif_pos (by decide)]
    rfl
  · rw [GatherDims.start_batching _ _ _ _ (by decide), Nat.zero_add]
    unfold GatherDims.batchCoord
    rw [dif_pos (by decide)]
    rfl
  · rw [GatherDims.batchCoord_eq_zero _ _ _ (by decide), Nat.add_zero]
    unfold GatherDims.start
    rw [dif_pos (by decide)]
    have hsi : ∀ k, (gather_S2x4096x64_S2x4096x8x1_S2x4096x8_n_2_01_01_2_3_111).siIdx (ix3 b r q) k = ix4 b r q 0 := by
      intro k
      funext b
      refine Fin.ext ?_
      match b with
      | ⟨0, _⟩ => rfl
      | ⟨1, _⟩ => rfl
      | ⟨2, _⟩ => rfl
      | ⟨3, _⟩ => exact congrArg Fin.val (Subsingleton.elim (α := Fin 1) _ _)
    rw [hsi, hp]
    show min (BitVec.ofNat 32 p.val).toInt.toNat 63 = p.val
    clear hp; revert p; decide

/-! ## The folds along a row -/

theorem and_fold (h : S2x4096x8.ReducesTo [2] S2x4096) (hu : 0 < S_.numel) (X : IVec S2x4096x8 1) (b : Fin 2) (r : Fin 4096)
    (B : Fin 8 → Prop) (hX : ∀ q, X (ix3 b r q) = BitVec.ofBool (decide (B q))) :
    Host.reduce IntOp.andi X (constantI S_ 1 1#1) h hu (ix2 b r) = BitVec.ofBool (decide (∀ q, B q)) := by
  pointwise
  simp only [hX]
  have : ∀ s : Finset (Fin 8), Finset.fold IntOp.andi 1#1 (fun q => BitVec.ofBool (decide (B q))) s
      = BitVec.ofBool (decide (∀ q ∈ s, B q)) := by
    intro s
    induction s using Finset.induction_on with
    | empty => simp
    | insert a s ha ih =>
      rw [Finset.fold_insert ha, ih]
      rw [show IntOp.andi (BitVec.ofBool (decide (B a))) (BitVec.ofBool (decide (∀ q ∈ s, B q)))
        = BitVec.ofBool (decide (B a) && decide (∀ q ∈ s, B q)) by
          cases decide (B a) <;> cases decide (∀ q ∈ s, B q) <;> rfl]
      simp
  rw [this]
  simp

theorem max_fold (h : S2x4096x8.ReducesTo [2] S2x4096) (hu : 0 < S_.numel) (X : FVec Ideal S2x4096x8 .f32) (b : Fin 2)
    (r : Fin 4096) :
    Host.reduce FloatOps.maximumf X (constant S_ .f32 0xFF800000#32) h hu (ix2 b r)
      = Finset.univ.sup fun q => (X (ix3 b r q) : EReal) := by
  pointwise
  have hb : Ideal.ofBits .f32 0xFF800000#32 = ⊥ := by simp [Ideal.ofBits, Ideal.ieee]
  rw [hb]
  rfl

end Cert.Proof.Ref
-- ==== Proof.RefResult.lean ====
/- The reference's two results at an entry: the eight positions of greatest masked score in increasing order, and the
   normalised exponentials of their scores. -/
module

public import proofs.«01_k».proof.Proof.RefRead

@[expose] public section

set_option maxRecDepth 16384

noncomputable section

open Idealize.ShloMosaic
open scoped Classical

namespace Cert.Proof.Ref

open Cert.ReferenceIdeal Cert.ReferenceIdeal.Read

variable (x0 : FVec Ideal S2x4096x2048 .f32) (x1 : FVec Ideal S2x64x256 .f32) (x2 : FVec Ideal S256x2048 .f32)
  (x3 : FVec Ideal S2048 .f32) (x4 x5 : FVec Ideal S256 .f32) (b : Fin 2) (r : Fin 4096)

/-- The row of masked scores. -/
def row (c : Fin 64) : EReal := masked (r.val / 64) (argScore x0 x1 x2 x3 x4 x5 b r) c

/-- The chosen positions of the row, in increasing order. -/
def position (q : Fin 8) : Fin 64 := increasing (chosen (row x0 x1 x2 x3 x4 x5 b r)) q

/-- Their scores. -/
def entry (q : Fin 8) : EReal := row x0 x1 x2 x3 x4 x5 b r (position x0 x1 x2 x3 x4 x5 b r q)

theorem indices_stage (i : Fin 8) :
    val_main_indices (F := Ideal) x0 x1 x2 x3 x4 x5 (ix3 b r i)
      = BitVec.ofNat 32 (chosen (row x0 x1 x2 x3 x4 x5 b r) i).val := by
  unfold val_main_indices
  rw [topK_apply]
  have h : (fun c => val_main_v55 (F := Ideal) x0 x1 x2 x3 x4 x5 (ix3 b r c)) = row x0 x1 x2 x3 x4 x5 b r := by
    funext c; exact masked_apply x0 x1 x2 x3 x4 x5 b r c
  rw [h]

theorem sorted_stage (q : Fin 8) :
    val_main_v56 (F := Ideal) x0 x1 x2 x3 x4 x5 (ix3 b r q) = BitVec.ofNat 32 (position x0 x1 x2 x3 x4 x5 b r q).val := by
  unfold val_main_v56
  rw [sort_apply]
  simp only [indices_stage]
  rfl

theorem wrapped_stage (q : Fin 8) :
    val_main_call2_v4 (F := Ideal) x0 x1 x2 x3 x4 x5 (ix3 b r q)
      = BitVec.ofNat 32 (position x0 x1 x2 x3 x4 x5 b r q).val := by
  have h : val_main_call2_v4 (F := Ideal) x0 x1 x2 x3 x4 x5 (ix3 b r q)
      = Scalar.select (IntOp.cmpi .slt (val_main_v56 (F := Ideal) x0 x1 x2 x3 x4 x5 (ix3 b r q)) 0#32)
          (IntOp.addi (val_main_v56 (F := Ideal) x0 x1 x2 x3 x4 x5 (ix3 b r q)) 64#32)
          (val_main_v56 (F := Ideal) x0 x1 x2 x3 x4 x5 (ix3 b r q)) := rfl
  rw [h, sorted_stage]
  generalize position x0 x1 x2 x3 x4 x5 b r q = p
  revert p; decide

theorem starts_stage (q : Fin 8) (z : Fin 1) :
    val_main_call2_v5 (F := Ideal) x0 x1 x2 x3 x4 x5 (ix4 b r q z)
      = BitVec.ofNat 32 (position x0 x1 x2 x3 x4 x5 b r q).val := by
  rw [← wrapped_stage]
  unfold val_main_call2_v5
  generalize val_main_call2_v4 (F := Ideal) x0 x1 x2 x3 x4 x5 = y
  pointwise

theorem in_range_stage (i : S2x4096x8x1.Idx) : val_main_call2_v11 (F := Ideal) x0 x1 x2 x3 x4 x5 i = 1#1 := by
  have h : val_main_call2_v11 (F := Ideal) x0 x1 x2 x3 x4 x5 i
      = IntOp.andi (IntOp.cmpi .sge (val_main_call2_v5 (F := Ideal) x0 x1 x2 x3 x4 x5 i) 0#32)
          (IntOp.cmpi .sle (val_main_call2_v5 (F := Ideal) x0 x1 x2 x3 x4 x5 i) 63#32) := rfl
  obtain ⟨b, r, q, z, hi⟩ : ∃ (b : Fin 2) (r : Fin 4096) (q : Fin 8) (z : Fin 1), i = ix4 b r q z :=
    ⟨i 0, i 1, i 2, i 3, by funext a; fin_cases a <;> rfl⟩
  rw [h, hi, starts_stage]
  generalize position x0 x1 x2 x3 x4 x5 b r q = p
  clear hi h
  revert p; decide

/-- The gathered scores. -/
theorem entry_stage (q : Fin 8) :
    val_main_v57 (F := Ideal) x0 x1 x2 x3 x4 x5 (ix3 b r q) = entry x0 x1 x2 x3 x4 x5 b r q := by
  have h : val_main_v57 (F := Ideal) x0 x1 x2 x3 x4 x5 (ix3 b r q)
      = Scalar.select (val_main_call2_v12 (F := Ideal) x0 x1 x2 x3 x4 x5 (ix3 b r q))
          (val_main_call2_v13 (F := Ideal) x0 x1 x2 x3 x4 x5 (ix3 b r q)) (val_main_call2_v14 (F := Ideal) (ix3 b r q)) := rfl
  have h12 : val_main_call2_v12 (F := Ideal) x0 x1 x2 x3 x4 x5 (ix3 b r q) = 1#1 := by
    unfold val_main_call2_v12
    exact Host.reduce_andi_one _ _ _ _ _ rfl (in_range_stage x0 x1 x2 x3 x4 x5)
  rw [h, h12]
  show val_main_call2_v13 (F := Ideal) x0 x1 x2 x3 x4 x5 (ix3 b r q) = _
  unfold val_main_call2_v13
  rw [gather_apply _ _ b r q _ (starts_stage x0 x1 x2 x3 x4 x5 b r q 0), masked_apply]
  rfl

theorem ofBits_negInf : Ideal.ofBits .f32 0xFF800000#32 = ⊥ := by simp [Ideal.ofBits, Ideal.ieee]

/-- Whether every chosen score is minus infinity. -/
theorem none_stage : val_main_v60 (F := Ideal) x0 x1 x2 x3 x4 x5 (ix2 b r)
    = BitVec.ofBool (decide (∀ q, entry x0 x1 x2 x3 x4 x5 b r q = ⊥)) := by
  unfold val_main_v60
  refine (and_fold _ _ _ b r (fun q => entry x0 x1 x2 x3 x4 x5 b r q = ⊥) fun q => ?_).trans
    (congrArg BitVec.ofBool (decide_eq_decide.2 Iff.rfl))
  have h : val_main_v59 (F := Ideal) x0 x1 x2 x3 x4 x5 (ix3 b r q)
      = Ideal.cmp .oeq (val_main_v57 (F := Ideal) x0 x1 x2 x3 x4 x5 (ix3 b r q)) (Ideal.ofBits .f32 0xFF800000#32) := by
    unfold val_main_v59 val_main_v58 val_main_cst_11
    generalize val_main_v57 (F := Ideal) x0 x1 x2 x3 x4 x5 = y
    rfl
  rw [h, entry_stage, ofBits_negInf]
  exact congrArg BitVec.ofBool (decide_eq_decide.2 Iff.rfl)

theorem shown_stage (q : Fin 8) : val_main_v62 (F := Ideal) x0 x1 x2 x3 x4 x5 (ix3 b r q)
    = shown (entry x0 x1 x2 x3 x4 x5 b r) q := by
  have h : val_main_v62 (F := Ideal) x0 x1 x2 x3 x4 x5 (ix3 b r q)
      = Scalar.select (val_main_call3_v1 (F := Ideal) x0 x1 x2 x3 x4 x5 (ix3 b r q)) (Ideal.ofBits .f32 0x00000000#32)
          (val_main_v57 (F := Ideal) x0 x1 x2 x3 x4 x5 (ix3 b r q)) := rfl
  have h1 : val_main_call3_v1 (F := Ideal) x0 x1 x2 x3 x4 x5 (ix3 b r q) = val_main_v60 (F := Ideal) x0 x1 x2 x3 x4 x5 (ix2 b r) := by
    unfold val_main_call3_v1 val_main_v61
    generalize val_main_v60 (F := Ideal) x0 x1 x2 x3 x4 x5 = y
    pointwise
  rw [h, h1, none_stage, entry_stage]
  have hz : Ideal.ofBits .f32 0x00000000#32 = 0 := by simp [Ideal.ofBits, Ideal.ieee]
  rw [hz]
  unfold shown Scalar.select
  by_cases hb : ∀ q, entry x0 x1 x2 x3 x4 x5 b r q = ⊥ <;> simp [hb]

theorem expo_stage (q : Fin 8) : val_main_v69 (F := Ideal) x0 x1 x2 x3 x4 x5 (ix3 b r q)
    = expo (entry x0 x1 x2 x3 x4 x5 b r) q := by
  have h : val_main_v69 (F := Ideal) x0 x1 x2 x3 x4 x5 (ix3 b r q)
      = Ideal.exp (val_main_v62 (F := Ideal) x0 x1 x2 x3 x4 x5 (ix3 b r q) - val_main_v67 (F := Ideal) x0 x1 x2 x3 x4 x5 (ix3 b r q)) := by
    unfold val_main_v69 val_main_v68
    generalize val_main_v62 (F := Ideal) x0 x1 x2 x3 x4 x5 = y
    generalize val_main_v67 (F := Ideal) x0 x1 x2 x3 x4 x5 = z
    rfl
  have h1 : val_main_v67 (F := Ideal) x0 x1 x2 x3 x4 x5 (ix3 b r q)
      = max (Ideal.ofBits .f32 0xFF800000#32) (val_main_v63 (F := Ideal) x0 x1 x2 x3 x4 x5 (ix2 b r)) := by
    unfold val_main_v67 val_main_v66 val_main_v65 val_main_v64 val_main_cst_15
    generalize val_main_v63 (F := Ideal) x0 x1 x2 x3 x4 x5 = y
    pointwise
  have h2 : val_main_v63 (F := Ideal) x0 x1 x2 x3 x4 x5 (ix2 b r) = Finset.univ.sup (shown (entry x0 x1 x2 x3 x4 x5 b r)) := by
    unfold val_main_v63
    refine (max_fold _ _ _ b r).trans ?_
    exact Finset.sup_congr rfl fun q _ => shown_stage x0 x1 x2 x3 x4 x5 b r q
  rw [h, h1, h2, shown_stage, ofBits_negInf, max_eq_right bot_le]
  rfl

theorem weight_stage (q : Fin 8) : val_main_v74 (F := Ideal) x0 x1 x2 x3 x4 x5 (ix3 b r q)
    = refW (entry x0 x1 x2 x3 x4 x5 b r) q := by
  have h : val_main_v74 (F := Ideal) x0 x1 x2 x3 x4 x5 (ix3 b r q)
      = Scalar.select (val_main_call4_v1 (F := Ideal) x0 x1 x2 x3 x4 x5 (ix3 b r q)) (Ideal.ofBits .f32 0x00000000#32)
          (Ideal.div (val_main_v69 (F := Ideal) x0 x1 x2 x3 x4 x5 (ix3 b r q)) (val_main_v72 (F := Ideal) x0 x1 x2 x3 x4 x5 (ix3 b r q))) := rfl
  have h1 : val_main_call4_v1 (F := Ideal) x0 x1 x2 x3 x4 x5 (ix3 b r q) = val_main_v60 (F := Ideal) x0 x1 x2 x3 x4 x5 (ix2 b r) := by
    unfold val_main_call4_v1 val_main_v61
    generalize val_main_v60 (F := Ideal) x0 x1 x2 x3 x4 x5 = y
    pointwise
  have h2 : val_main_v72 (F := Ideal) x0 x1 x2 x3 x4 x5 (ix3 b r q) = ∑ q, expo (entry x0 x1 x2 x3 x4 x5 b r) q := by
    have hs : val_main_v72 (F := Ideal) x0 x1 x2 x3 x4 x5 (ix3 b r q)
        = ∑ q : Fin 8, (val_main_v69 (F := Ideal) x0 x1 x2 x3 x4 x5 (ix3 b r q) : EReal) := by
      unfold val_main_v72 val_main_v71 val_main_v70 val_main_cst_16
      generalize val_main_v69 (F := Ideal) x0 x1 x2 x3 x4 x5 = y
      pointwise
    rw [hs]
    exact Finset.sum_congr rfl fun q _ => expo_stage x0 x1 x2 x3 x4 x5 b r q
  rw [h, h1, h2, none_stage, expo_stage]
  have hz : Ideal.ofBits .f32 0x00000000#32 = 0 := by simp [Ideal.ofBits, Ideal.ieee]
  rw [hz]
  unfold refW Scalar.select
  by_cases hb : ∀ q, entry x0 x1 x2 x3 x4 x5 b r q = ⊥ <;> simp [hb]

/-- The reference's weights at an entry: column `j` is slot `j mod 8`. -/
theorem weights_result (j : Fin 32) : val_main_v79 (F := Ideal) x0 x1 x2 x3 x4 x5 (ix3 b r j)
    = refW (entry x0 x1 x2 x3 x4 x5 b r) ⟨j.val % 8, Nat.mod_lt _ (by norm_num)⟩ := by
  rw [← weight_stage]
  unfold val_main_v79 val_main_v76 val_main_v75
  generalize val_main_v74 (F := Ideal) x0 x1 x2 x3 x4 x5 = y
  pointwise

/-- The reference's indices at an entry. -/
theorem indices_result (j : Fin 32) : val_main_v80 (F := Ideal) x0 x1 x2 x3 x4 x5 (ix3 b r j)
    = BitVec.ofNat 32 (position x0 x1 x2 x3 x4 x5 b r ⟨j.val % 8, Nat.mod_lt _ (by norm_num)⟩).val := by
  rw [← sorted_stage]
  unfold val_main_v80 val_main_v78 val_main_v77
  generalize val_main_v56 (F := Ideal) x0 x1 x2 x3 x4 x5 = y
  pointwise

end Cert.Proof.Ref
-- ==== Proof.Precondition.lean ====
/- What the precondition `scores_separate` says: the pre-scale is one everywhere and each row's visible scores are finite, at
   least −1e29 and different. And where the two masks are set. -/
module

public import proofs.«01_k».proof.Proof.RefScore
public import proofs.«01_k».proof.Proof.Order
public import proofs.«01_k».proof.Pre_scores_separate
public import proofs.«01_k».proof.On_indices_and_late_weights
public import proofs.«01_k».proof.On_weights_and_late_indices

@[expose] public section

set_option maxRecDepth 16384

noncomputable section

open Idealize.ShloMosaic
open scoped Classical

namespace Cert.Proof.Pre

open Cert.Pre_scores_separate

variable [Cert.Pre_scores_separate.Facts]

/-- The rows that do not see a chunk, as the predicate computes them. -/
def unseen : IVec S1x4096x64 1 :=
  cmpi .slt
    (broadcastInDim S1x4096x64 ![0, 1, 2] Facts.bcast_S1x4096x1_S1x4096x64_0_1_2
      (broadcastInDim S1x4096x1 ![1] Facts.bcast_S4096_S1x4096x1_1 (iotaInDim S4096 32 0)))
    (broadcastInDim S1x4096x64 ![0, 1, 2] Facts.bcast_S1x1x64_S1x4096x64_0_1_2
      (broadcastInDim S1x1x64 ![2] Facts.bcast_S64_S1x1x64_2
        (muli (addi (iotaInDim S64 32 0) (broadcastInDim S64 ![] Facts.bcast_S_S64 (constantI S_ 32 1#32)))
          (broadcastInDim S64 ![] Facts.bcast_S_S64 (constantI S_ 32 64#32)))))

theorem unseen_apply (r : Fin 4096) (c : Fin 64) :
    unseen (ix3 0 r c) = BitVec.ofBool (decide (r.val < (c.val + 1) * 64)) := by
  unfold unseen
  pointwise
  have hw : IntOp.muli (IntOp.addi (BitVec.ofNat 32 c.val) 1#32) 64#32 = BitVec.ofNat 32 ((c.val + 1) * 64) := by
    clear r; revert c; decide
  rw [hw, WordCmp.cmpi_slt_ofNat (by norm_num; omega) (by norm_num; omega)]

section
variable (y : FVec Ideal S2x4096x64 .f32) (u : IVec S2048 1) (z : FVec Ideal S2x4096x64 .f32)

/-- The predicate's second array of the scores `y`. -/
theorem range_apply (b : Fin 2) (r : Fin 4096) (c : Fin 64) :
    (fn_part3 (F := Ideal) y unseen u z).2.1 (ix3 b r c)
      = IntOp.ori (unseen (ix3 0 r c)) (IntOp.andi (FloatOps.cmpf .oge (y (ix3 b r c)) (z (ix3 b r c)))
          (FloatOps.cmpf .olt (y (ix3 b r c)) (Ideal.ofBits .f32 0x7F800000#32))) := by
  unfold fn_part3 fn_part4
  generalize unseen = x
  pointwise

/-- The predicate's third array of the scores `y`. -/
theorem apart_apply (b : Fin 2) (r : Fin 4096) (c k : Fin 64) :
    (fn_part3 (F := Ideal) y unseen u z).2.2 (ix4 b r c k)
      = IntOp.ori (IntOp.ori (unseen (ix3 0 r c)) (IntOp.cmpi .sle (BitVec.ofNat 32 c.val) (BitVec.ofNat 32 k.val)))
          (FloatOps.cmpf .une (y (ix3 b r c)) (y (ix3 b r k))) := by
  unfold fn_part3 fn_part4
  generalize unseen = x
  pointwise
end

variable (x0 : FVec Ideal S2x4096x2048 .f32) (x1 : FVec Ideal S2x64x256 .f32) (x2 : FVec Ideal S256x2048 .f32)
  (x3 : FVec Ideal S2048 .f32) (x4 x5 : FVec Ideal S256 .f32)

open Cert.ReferenceIdeal.Read in
/-- The predicate is its last part at the reference's scores. -/
theorem fn_eq : fn (F := Ideal) x0 x1 x2 x3 x4 x5
    = fn_part3 (F := Ideal) (val_main_v43 (F := Ideal) x0 x1 x2 x3 x4 x5) unseen
        (cmpf .oeq x3 (broadcastInDim S2048 ![] Facts.bcast_S_S2048 (constant S_ .f32 0x3F800000#32)))
        (broadcastInDim S2x4096x64 ![] Facts.bcast_S_S2x4096x64 (constant S_ .f32 0xEFA18F08#32)) := by
  unfold val_main_v43 val_main_v42 val_main_cst_8 val_main_v41 val_main_v40 val_main_v39 val_main_v38 val_main_v37 val_main_v36 val_main_v35 val_main_v34 val_main_v33 val_main_cst_7 val_main_v32 val_main_v31 val_main_cst_6 val_main_v30 val_main_v29 val_main_cst_5 val_main_v28 val_main_v27 val_main_v26 val_main_v25 val_main_v24 val_main_v23 val_main_v22 val_main_v21 val_main_v20 val_main_cst_4 val_main_v19 val_main_v18 val_main_cst_3 val_main_v17 val_main_v16 val_main_cst_2 val_main_v15 val_main_v14 val_main_v13 val_main_v12 val_main_v11 val_main_v10 val_main_v9 val_main_v8 val_main_v7 val_main_v6 val_main_v5 val_main_cst_1 val_main_v4 val_main_v3 val_main_cst_0 val_main_v2 val_main_v1 val_main_cst val_main_v0
  unfold fn fn_part1 fn_part2 unseen
  rfl

variable {x0 x1 x2 x3 x4 x5}

/-- A bit that is one. -/
theorem bit {p : Prop} [Decidable p] (h : BitVec.ofBool (decide p) = 1#1) : p := by
  by_contra hp; rw [decide_eq_false hp] at h; exact absurd h (by decide)

/-- Where a disjunction is one and its first bit is not, its second is. -/
theorem or_right {a b : BitVec 1} (h : IntOp.ori a b = 1#1) (ha : a = 0#1) : b = 1#1 := by
  subst ha; revert h; revert b; decide
theorem and_left {a b : BitVec 1} (h : IntOp.andi a b = 1#1) : a = 1#1 := by revert h; revert a b; decide
theorem and_right {a b : BitVec 1} (h : IntOp.andi a b = 1#1) : b = 1#1 := by revert h; revert a b; decide

/-- The pre-scale is one. -/
theorem unit (h : (fn (F := Ideal) x0 x1 x2 x3 x4 x5).1 = fun _ => 1#1) (k : Fin 2048) : x3 (ix1 k) = 1 := by
  rw [fn_eq] at h
  have h1 : BitVec.ofBool (decide (x3 (ix1 k) = Ideal.ofBits .f32 0x3F800000#32)) = 1#1 := congrFun h (ix1 k)
  exact (bit h1).trans ofBits_one

/-- A visible chunk is not unseen. -/
theorem seen {r : Fin 4096} {c : Fin 64} (h : c.val < r.val / 64) : unseen (ix3 0 r c) = 0#1 := by
  rw [unseen_apply, decide_eq_false (by omega)]; rfl

/-- The visible scores of every row are finite, at least −1e29, and different. -/
theorem separated (h1 : (fn (F := Ideal) x0 x1 x2 x3 x4 x5).2.1 = fun _ => 1#1)
    (h2 : (fn (F := Ideal) x0 x1 x2 x3 x4 x5).2.2 = fun _ => 1#1) (b : Fin 2) (r : Fin 4096) :
    Separated (Ideal.ofBits .f32 0xEFA18F08#32) (r.val / 64) (Ref.argScore x0 x1 x2 x3 x4 x5 b r) := by
  rw [fn_eq] at h1 h2
  have key : ∀ c : Fin 64, c.val < r.val / 64 → _ := fun c hc =>
    or_right ((range_apply _ _ _ b r c).symm.trans (congrFun h1 (ix3 b r c))) (seen hc)
  refine ⟨fun c hc => ?_, fun c hc => ?_, fun c k hc hk => ?_⟩
  · have := and_left (key c hc)
    rw [Ref.scores_apply] at this
    exact bit (p := Ideal.ofBits .f32 0xEFA18F08#32 ≤ Ref.argScore x0 x1 x2 x3 x4 x5 b r c) this
  · have := and_right (key c hc)
    rw [Ref.scores_apply] at this
    have ht : Ideal.ofBits .f32 0x7F800000#32 = ⊤ := by simp [Ideal.ofBits, Ideal.ieee]
    rw [← ht]
    exact bit (p := Ref.argScore x0 x1 x2 x3 x4 x5 b r c < Ideal.ofBits .f32 0x7F800000#32) this
  · have hle : IntOp.cmpi .sle (BitVec.ofNat 32 c.val) (BitVec.ofNat 32 k.val) = 0#1 := by
      have := c.isLt; have := k.isLt
      rw [WordCmp.cmpi_sle_ofNat (by norm_num; omega) (by norm_num; omega), decide_eq_false (by have : k.val < c.val := hk; omega)]
      rfl
    have := or_right ((apart_apply _ _ _ b r c k).symm.trans (congrFun h2 (ix4 b r c k))) (by rw [seen hc, hle]; rfl)
    rw [Ref.scores_apply, Ref.scores_apply] at this
    exact bit (p := Ref.argScore x0 x1 x2 x3 x4 x5 b r c ≠ Ref.argScore x0 x1 x2 x3 x4 x5 b r k) this

/-- Where the mask of late weights is set, the row is at least 512. -/
theorem late_weights [Cert.On_indices_and_late_weights.Facts] {b : Fin 2} {r : Fin 4096} {j : Fin 32}
    (h : (Cert.On_indices_and_late_weights.fn (F := Ideal) x0 x1 x2 x3 x4 x5).1 (ix3 b r j) = 1#1) : 8 ≤ r.val / 64 := by
  have h' : IntOp.cmpi .sge (BitVec.ofNat 32 r.val) (BitVec.ofNat 32 512) = 1#1 := h
  rw [WordCmp.cmpi_sge_ofNat (by norm_num; omega) (by norm_num)] at h'
  have := bit h'; omega

/-- Where the mask of late indices is set, the row is at least 512. -/
theorem late_indices [Cert.On_weights_and_late_indices.Facts] {b : Fin 2} {r : Fin 4096} {j : Fin 32}
    (h : (Cert.On_weights_and_late_indices.fn (F := Ideal) x0 x1 x2 x3 x4 x5).2 (ix3 b r j) = 1#1) : 8 ≤ r.val / 64 := by
  have h' : IntOp.cmpi .sge (BitVec.ofNat 32 r.val) (BitVec.ofNat 32 512) = 1#1 := h
  rw [WordCmp.cmpi_sge_ofNat (by norm_num; omega) (by norm_num)] at h'
  have := bit h'; omega

end Cert.Proof.Pre

end
-- ==== Proof.Agree.lean ====
/- The kernel's result arrays and the reference's results are the same arrays of the arguments, under the precondition, where the
   claims' masks are set. -/
module

public import proofs.«01_k».proof.Proof.Arrays
public import proofs.«01_k».proof.Proof.NamedArrays
public import proofs.«01_k».proof.Proof.RefResult
public import proofs.«01_k».proof.Proof.Precondition

@[expose] public section

set_option maxRecDepth 16384

noncomputable section

open Idealize.ShloMosaic Idealize.ShloMosaic.TcCoe Idealize.SL.Sem
open scoped Classical

namespace Cert.Proof.Agree

variable [Cert.Pre_scores_separate.Facts]

section KernelIdeal
open Cert.KernelIdeal Cert.KernelIdeal.Gen

variable (m : (ℓ : Loc nD τ sig) → Buf (Elt Ideal) ℓ) (c : Dev nD)

/-- With a pre-scale of one the kernel's scores of a row are the reference's. -/
theorem rowScore_eq (hg : ∀ k, m ((c : Thread nD τ).loc main_arg3) (ix1 k) = (1 : EReal)) (b : Fin 2) (r : Fin 4096) :
    Column.rowScore m c b r
      = Ref.argScore (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b r := by
  funext q
  exact (score_eq _ _ _ hg _ _ _).symm

variable (h1 : (Cert.Pre_scores_separate.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))).1 = fun _ => 1#1)
  (h2 : (Cert.Pre_scores_separate.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))).2.1 = fun _ => 1#1)
  (h3 : (Cert.Pre_scores_separate.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))).2.2 = fun _ => 1#1)
include h1 h2 h3

/-- From row 512 on the reference's weights are the kernel's. -/
theorem weights (b : Fin 2) (r : Fin 4096) (j : Fin 32) (hr : 8 ≤ r.val / 64) :
    Cert.ReferenceIdeal.Read.val_main_v79 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix3 b r j)
      = (dats m 0 c).arrAt 5 cfg0.N (ix3 b r j) := by
  rw [Ref.weights_result, Column.arr5_apply, rowScore_eq m c (Pre.unit h1)]
  exact (outW_filled (Pre.separated h2 h3 b r) bot_lt_bound struck_lt_bound (listed_chosen _)
    (resorted_increasing _ (listed_chosen _).inj) filling_fillValue hr _).symm

/-- On every row the reference's indices are the kernel's. -/
theorem indices (b : Fin 2) (r : Fin 4096) (j : Fin 32) :
    Cert.ReferenceIdeal.Read.val_main_v80 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix3 b r j)
      = (dats m 0 c).arrAt 6 cfg0.N (ix3 b r j) := by
  rw [Ref.indices_result, Column.arr6_apply, rowScore_eq m c (Pre.unit h1), ← word_of_chunk]
  exact congrArg (Ideal.fptosi 32) (outI_filled (Pre.separated h2 h3 b r) bot_lt_bound struck_lt_bound (listed_chosen _)
    (resorted_increasing _ (listed_chosen _).inj) filling_fillValue _).symm

end KernelIdeal

section KernelNamed
open Cert.KernelNamed Cert.KernelNamed.Gen

variable (m : (ℓ : Loc nD τ sig) → Buf (Elt Ideal) ℓ) (c : Dev nD)

/-- With a pre-scale of one the kernel's scores of a row are the reference's. -/
theorem named_rowScore_eq (hg : ∀ k, m ((c : Thread nD τ).loc main_arg3) (ix1 k) = (1 : EReal)) (b : Fin 2) (r : Fin 4096) :
    Column.named_rowScore m c b r
      = Ref.argScore (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b r := by
  funext q
  exact (score_eq _ _ _ hg _ _ _).symm

variable (h1 : (Cert.Pre_scores_separate.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))).1 = fun _ => 1#1)
  (h2 : (Cert.Pre_scores_separate.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))).2.1 = fun _ => 1#1)
  (h3 : (Cert.Pre_scores_separate.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))).2.2 = fun _ => 1#1)
include h1 h2 h3

/-- On every row the reference's weights are the kernel's, the mask's constant being minus infinity. -/
theorem named_weights (b : Fin 2) (r : Fin 4096) (j : Fin 32) :
    Cert.ReferenceIdeal.Read.val_main_v79 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix3 b r j)
      = (dats m 0 c).arrAt 5 cfg0.N (ix3 b r j) := by
  rw [Ref.weights_result, Column.named_arr5_apply, named_rowScore_eq m c (Pre.unit h1)]
  exact (outW_masked (Pre.separated h2 h3 b r) bot_lt_bound struck_lt_bound (listed_chosen _)
    (resorted_increasing _ (listed_chosen _).inj) bot_lt_struck _).symm

/-- From row 512 on the reference's indices are the kernel's, the mask's constant being minus infinity. -/
theorem named_indices (b : Fin 2) (r : Fin 4096) (j : Fin 32) (hr : 8 ≤ r.val / 64) :
    Cert.ReferenceIdeal.Read.val_main_v80 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix3 b r j)
      = (dats m 0 c).arrAt 6 cfg0.N (ix3 b r j) := by
  rw [Ref.indices_result, Column.named_arr6_apply, named_rowScore_eq m c (Pre.unit h1), ← word_of_chunk]
  exact congrArg (Ideal.fptosi 32) (outI_masked (Pre.separated h2 h3 b r) bot_lt_bound struck_lt_bound (listed_chosen _)
    (resorted_increasing _ (listed_chosen _).inj) bot_lt_struck hr _).symm

end KernelNamed

end Cert.Proof.Agree

end
-- ==== Proof.RefRun.lean ====
/- The reference's run: its two results are the stages of the arguments, and the arguments are kept. -/
module

public import proofs.«01_k».proof.Proof.Gen.ReferenceIdeal.Read
public import proofs.«01_k».proof.Proof.Gen.ReferenceIdeal.Run
public import Idealize.ShloMosaic.Lib.Quiescent

@[expose] public section

noncomputable section

open Idealize.ShloMosaic Idealize.ShloMosaic.TcCoe Idealize.SL.Sem Idealize.ShloMosaic.StableHlo

namespace Cert.Proof.Ref

open Cert.ReferenceIdeal Cert.ReferenceIdeal.Read

variable (m : (ℓ : Loc nD τ sig) → Buf (Elt Ideal) ℓ) (ρ : Dev nD → PrngReg)

/-- After the run the results hold the last stages of the arguments. -/
theorem run : θ_run (defs (F := Ideal)) (onTc (τ := τ) (main (F := Ideal))) ⟨m, fun _ => 0, ρ⟩ fun r => ∀ c : Dev nD,
      r.2.mem ((c.tc : Thread nD τ).loc main_v79)
        = val_main_v79 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5))
      ∧ r.2.mem ((c.tc : Thread nD τ).loc main_v80)
        = val_main_v80 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v79_eq (launchContents m c)),
      (h c).2.1.trans (val_main_v80_eq (launchContents m c)), (h c).2.2⟩) (Cert.ReferenceIdeal.Value.run (F := Ideal) m ρ)

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelNamed
public import proofs.«01_k».proof.Proof.Gen.KernelNamed.Skeleton
public import proofs.«01_k».proof.Proof.Gen.KernelNamed.Launch
public import proofs.«01_k».proof.Proof.Gen.KernelNamed.Points
public import proofs.«01_k».proof.Proof.Gen.KernelNamed.Frame
public import proofs.«01_k».proof.Proof.Gen.ReferenceIdeal
public import proofs.«01_k».proof.Proof.Gen.Pre_scores_separate
public import proofs.«01_k».proof.Proof.Gen.On_indices_and_late_weights
public import proofs.«01_k».proof.Proof.Gen.On_weights_and_late_indices
public import proofs.«01_k».proof.Proof.Gen.KernelIdeal.Value
public import proofs.«01_k».proof.Proof.Gen.KernelNamed.Value
public import proofs.«01_k».proof.Proof.Gen.ReferenceIdeal.Run
public import proofs.«01_k».proof.Proof.Gen.ReferenceIdeal.Read
public import proofs.«01_k».proof.Proof.Agree
public import proofs.«01_k».proof.Proof.RefRun
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

/-- The value claim of `KernelIdeal`: its arrays, and the reference's where the mask is set. -/
theorem value_claim : Cert.algebraic_KernelIdeal_ReferenceIdeal_on_indices_and_late_weights_pre_scores_separate
    (hKernelIdeal := Cert.KernelIdeal.Gen.facts) (hReferenceIdeal := Cert.ReferenceIdeal.Gen.facts)
    (hPre_scores_separate := Cert.Pre_scores_separate.Gen.facts) (hOn_indices_and_late_weights := Cert.On_indices_and_late_weights.Gen.facts) := by
  intro m g m' g' hpre hagree
  refine ⟨fun c => (Cert.KernelIdeal.Gen.dats m 0 c).arrAt 5 Cert.KernelIdeal.cfg0.N, fun c => (Cert.KernelIdeal.Gen.dats m 0 c).arrAt 6 Cert.KernelIdeal.cfg0.N,
    (θ_run Cert.KernelIdeal.defs _ _).mono (fun r h c => ⟨fun i _ => congrFun (h c).1 i, fun i _ => congrFun (h c).2.1 i, (h c).2.2⟩)
      (Cert.KernelIdeal.Value.run_blocks (F := Ideal) m g),
    (θ_run Cert.ReferenceIdeal.defs _ _).mono (fun r h c => ⟨fun i hi => ?_, fun i hi => ?_, (h c).2.2⟩)
      (Ref.run m' g')⟩
  · refine (congrFun ((h c).1) i).trans ?_
    obtain ⟨b, l, j, rfl⟩ : ∃ (b : Fin 2) (l : Fin 4096) (j : Fin 32), i = ix3 b l j :=
      ⟨i 0, i 1, i 2, by funext a; fin_cases a <;> rfl⟩
    obtain ⟨e0, e1, e2, e3, e4, e5⟩ := hagree c
    refine Eq.trans ?_ (Agree.weights m c (hpre c).1 (hpre c).2.1 (hpre c).2.2 b l j (Pre.late_weights hi))
    rw [← e0, ← e1, ← e2, ← e3, ← e4, ← e5]
  · refine (congrFun ((h c).2.1) i).trans ?_
    obtain ⟨b, l, j, rfl⟩ : ∃ (b : Fin 2) (l : Fin 4096) (j : Fin 32), i = ix3 b l j :=
      ⟨i 0, i 1, i 2, by funext a; fin_cases a <;> rfl⟩
    obtain ⟨e0, e1, e2, e3, e4, e5⟩ := hagree c
    refine Eq.trans ?_ (Agree.indices m c (hpre c).1 (hpre c).2.1 (hpre c).2.2 b l j)
    rw [← e0, ← e1, ← e2, ← e3, ← e4, ← e5]

/-- The value claim of `KernelNamed`: its arrays, and the reference's where the mask is set. -/
theorem named_value_claim : Cert.algebraic_KernelNamed_ReferenceIdeal_on_weights_and_late_indices_pre_scores_separate
    (hKernelNamed := Cert.KernelNamed.Gen.facts) (hReferenceIdeal := Cert.ReferenceIdeal.Gen.facts)
    (hPre_scores_separate := Cert.Pre_scores_separate.Gen.facts) (hOn_weights_and_late_indices := Cert.On_weights_and_late_indices.Gen.facts) := by
  intro m g m' g' hpre hagree
  refine ⟨fun c => (Cert.KernelNamed.Gen.dats m 0 c).arrAt 5 Cert.KernelNamed.cfg0.N, fun c => (Cert.KernelNamed.Gen.dats m 0 c).arrAt 6 Cert.KernelNamed.cfg0.N,
    (θ_run Cert.KernelNamed.defs _ _).mono (fun r h c => ⟨fun i _ => congrFun (h c).1 i, fun i _ => congrFun (h c).2.1 i, (h c).2.2⟩)
      (Cert.KernelNamed.Value.run_blocks (F := Ideal) m g),
    (θ_run Cert.ReferenceIdeal.defs _ _).mono (fun r h c => ⟨fun i hi => ?_, fun i hi => ?_, (h c).2.2⟩)
      (Ref.run m' g')⟩
  · refine (congrFun ((h c).1) i).trans ?_
    obtain ⟨b, l, j, rfl⟩ : ∃ (b : Fin 2) (l : Fin 4096) (j : Fin 32), i = ix3 b l j :=
      ⟨i 0, i 1, i 2, by funext a; fin_cases a <;> rfl⟩
    obtain ⟨e0, e1, e2, e3, e4, e5⟩ := hagree c
    refine Eq.trans ?_ (Agree.named_weights m c (hpre c).1 (hpre c).2.1 (hpre c).2.2 b l j)
    rw [← e0, ← e1, ← e2, ← e3, ← e4, ← e5]
  · refine (congrFun ((h c).2.1) i).trans ?_
    obtain ⟨b, l, j, rfl⟩ : ∃ (b : Fin 2) (l : Fin 4096) (j : Fin 32), i = ix3 b l j :=
      ⟨i 0, i 1, i 2, by funext a; fin_cases a <;> rfl⟩
    obtain ⟨e0, e1, e2, e3, e4, e5⟩ := hagree c
    refine Eq.trans ?_ (Agree.named_indices m c (hpre c).1 (hpre c).2.1 (hpre c).2.2 b l j (Pre.late_indices hi))
    rw [← e0, ← e1, ← e2, ← e3, ← e4, ← e5]

/-- Every claim of the certificate. -/
theorem claim : Cert.Claim := ⟨Cert.Kernel.Gen.facts, Cert.KernelIdeal.Gen.facts, Cert.KernelNamed.Gen.facts, Cert.ReferenceIdeal.Gen.facts, Cert.Pre_scores_separate.Gen.facts, Cert.On_indices_and_late_weights.Gen.facts, Cert.On_weights_and_late_indices.Gen.facts, by
  exact ⟨fun m ρ _ => Cert.Kernel.Gen.frame m ρ,
    fun m ρ _ => Cert.KernelIdeal.Gen.frame m ρ, fun m ρ _ => Cert.KernelIdeal.Gen.frame m ρ,
    fun m ρ _ => Cert.KernelNamed.Gen.frame m ρ, fun m ρ _ => Cert.KernelNamed.Gen.frame m ρ,
    fun m ρ _ => (θ_run Cert.ReferenceIdeal.defs _ _).mono
      (fun r h => ⟨fun c => (h c).2.2, sem_eq_zero_of_no_sems (by decide) r.2⟩) (Cert.ReferenceIdeal.Value.run (F := Ideal) m ρ),
    fun m ρ _ => (θ_run Cert.ReferenceIdeal.defs _ _).mono
      (fun r h => ⟨fun c => (h c).2.2, sem_eq_zero_of_no_sems (by decide) r.2⟩) (Cert.ReferenceIdeal.Value.run (F := Ideal) m ρ),
    trivial, IdealRules.named_const.statement Cert.KernelNamed.κ "mask" .f32 0xF149F2CA#32 ⊥ rfl,
    value_claim, named_value_claim⟩⟩

end Cert.Proof

end
